-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x7 : Shape := ⟨2, ![20000, 7]⟩
abbrev S20000 : Shape := ⟨1, ![20000]⟩
abbrev S1x7 : Shape := ⟨2, ![1, 7]⟩
abbrev S_ : Shape := ⟨0, ![]⟩
abbrev S4000 : Shape := ⟨1, ![4000]⟩
abbrev S1x1x1x7 : Shape := ⟨4, ![1, 1, 1, 7]⟩
abbrev S96x1x1x7 : Shape := ⟨4, ![96, 1, 1, 7]⟩
abbrev S96x7 : Shape := ⟨2, ![96, 7]⟩
abbrev S20096x7 : Shape := ⟨2, ![20096, 7]⟩
abbrev S20096x1 : Shape := ⟨2, ![20096, 1]⟩
abbrev S20096x16 : Shape := ⟨2, ![20096, 16]⟩
abbrev S96 : Shape := ⟨1, ![96]⟩
abbrev S4096 : Shape := ⟨1, ![4096]⟩
abbrev S4096x1 : Shape := ⟨2, ![4096, 1]⟩
abbrev S4096x8 : Shape := ⟨2, ![4096, 8]⟩
abbrev S4096x16 : Shape := ⟨2, ![4096, 16]⟩
abbrev S8x4096 : Shape := ⟨2, ![8, 4096]⟩
abbrev S1x128 : Shape := ⟨2, ![1, 128]⟩
abbrev S1 : Shape := ⟨1, ![1]⟩
abbrev S1x16 : Shape := ⟨2, ![1, 16]⟩
abbrev S128x128 : Shape := ⟨2, ![128, 128]⟩
abbrev S128x8 : Shape := ⟨2, ![128, 8]⟩
abbrev S8x128 : Shape := ⟨2, ![8, 128]⟩
abbrev S128x1 : Shape := ⟨2, ![128, 1]⟩
abbrev S1x1x128 : Shape := ⟨3, ![1, 1, 128]⟩
abbrev S1x1x1 : Shape := ⟨3, ![1, 1, 1]⟩
abbrev S128 : Shape := ⟨1, ![128]⟩
abbrev S1000 : Shape := ⟨1, ![1000]⟩
abbrev S1024 : Shape := ⟨1, ![1024]⟩
abbrev S1024x8 : Shape := ⟨2, ![1024, 8]⟩
abbrev S1x8 : Shape := ⟨2, ![1, 8]⟩
abbrev S1000x7 : Shape := ⟨2, ![1000, 7]⟩
abbrev S1000x1 : Shape := ⟨2, ![1000, 1]⟩
abbrev S1000x8 : Shape := ⟨2, ![1000, 8]⟩

abbrev nBuf : Space → Nat
  | .hbm => 47
  | .vmem => 11
  | .smem => 2
  | _ => 0

abbrev bufTy : (tb : Table) → Fin (tcTables nBuf tb) → BufTy
  | .hbm, ⟨0, _⟩ => ⟨S20000x7, .f32⟩
  | .hbm, ⟨1, _⟩ => ⟨S20000, .f32⟩
  | .hbm, ⟨2, _⟩ => ⟨S20000x7, .f32⟩
  | .hbm, ⟨3, _⟩ => ⟨S1x7, .f32⟩
  | .hbm, ⟨4, _⟩ => ⟨S20000, .f32⟩
  | .hbm, ⟨5, _⟩ => ⟨S20000, .f32⟩
  | .hbm, ⟨6, _⟩ => ⟨S_, .f32⟩
  | .hbm, ⟨7, _⟩ => ⟨S20000, .f32⟩
  | .hbm, ⟨8, _⟩ => ⟨S20000, .f32⟩
  | .hbm, ⟨9, _⟩ => ⟨S_, .f32⟩
  | .hbm, ⟨10, _⟩ => ⟨S20000, .f32⟩
  | .hbm, ⟨11, _⟩ => ⟨S20000, .f32⟩
  | .hbm, ⟨12, _⟩ => ⟨S4000, .f32⟩
  | .hbm, ⟨13, _⟩ => ⟨S4000, .i32⟩
  | .hbm, ⟨14, _⟩ => ⟨S1x1x1x7, .f32⟩
  | .hbm, ⟨15, _⟩ => ⟨S96x1x1x7, .f32⟩
  | .hbm, ⟨16, _⟩ => ⟨S96x7, .f32⟩
  | .hbm, ⟨17, _⟩ => ⟨S20096x7, .f32⟩
  | .hbm, ⟨18, _⟩ => ⟨S_, .f32⟩
  | .hbm, ⟨19, _⟩ => ⟨S96x7, .f32⟩
  | .hbm, ⟨20, _⟩ => ⟨S20096x7, .f32⟩
  | .hbm, ⟨21, _⟩ => ⟨S_, .f32⟩
  | .hbm, ⟨22, _⟩ => ⟨S20096x1, .f32⟩
  | .hbm, ⟨23, _⟩ => ⟨S_, .f32⟩
  | .hbm, ⟨24, _⟩ => ⟨S20096x1, .f32⟩
  | .hbm, ⟨25, _⟩ => ⟨S20096x16, .f32⟩
  | .hbm, ⟨26, _⟩ => ⟨S96, .i32⟩
  | .hbm, ⟨27, _⟩ => ⟨S_, .i32⟩
  | .hbm, ⟨28, _⟩ => ⟨S96, .i32⟩
  | .hbm, ⟨29, _⟩ => ⟨S96, .i32⟩
  | .hbm, ⟨30, _⟩ => ⟨S4096, .i32⟩
  | .hbm, ⟨31, _⟩ => ⟨S_, .f32⟩
  | .hbm, ⟨32, _⟩ => ⟨S96, .f32⟩
  | .hbm, ⟨33, _⟩ => ⟨S4096, .f32⟩
  | .hbm, ⟨34, _⟩ => ⟨S4096x1, .f32⟩
  | .hbm, ⟨35, _⟩ => ⟨S4096x8, .f32⟩
  | .hbm, ⟨36, _⟩ => ⟨S4096x1, .f32⟩
  | .hbm, ⟨37, _⟩ => ⟨S4096, .f32⟩
  | .hbm, ⟨38, _⟩ => ⟨S1000, .f32⟩
  | .hbm, ⟨39, _⟩ => ⟨S1000, .i32⟩
  | .hbm, ⟨40, _⟩ => ⟨S_, .i32⟩
  | .hbm, ⟨41, _⟩ => ⟨S_, .i32⟩
  | .hbm, ⟨42, _⟩ => ⟨S1024, .i32⟩
  | .hbm, ⟨43, _⟩ => ⟨S1024x8, .f32⟩
  | .hbm, ⟨44, _⟩ => ⟨S1000x7, .f32⟩
  | .hbm, ⟨45, _⟩ => ⟨S1000x1, .f32⟩
  | .hbm, ⟨46, _⟩ => ⟨S1000x8, .f32⟩
  | .local _ .vmem, ⟨0, _⟩ => ⟨S20096x16, .f32⟩
  | .local _ .vmem, ⟨1, _⟩ => ⟨S4096x1, .f32⟩
  | .local _ .vmem, ⟨2, _⟩ => ⟨S4096x8, .f32⟩
  | .local _ .vmem, ⟨3, _⟩ => ⟨S4096x1, .f32⟩
  | .local _ .vmem, ⟨4, _⟩ => ⟨S4096x16, .f32⟩
  | .local _ .vmem, ⟨5, _⟩ => ⟨S4096x8, .f32⟩
  | .local _ .vmem, ⟨6, _⟩ => ⟨S8x4096, .f32⟩
  | .local _ .vmem, ⟨7, _⟩ => ⟨S1x128, .f32⟩
  | .local _ .vmem, ⟨8, _⟩ => ⟨S1x128, .f32⟩
  | .local _ .vmem, ⟨9, _⟩ => ⟨S4096x8, .f32⟩
  | .local _ .vmem, ⟨10, _⟩ => ⟨S1024x8, .f32⟩
  | .local _ .smem, ⟨0, _⟩ => ⟨S4096, .i32⟩
  | .local _ .smem, ⟨1, _⟩ => ⟨S1024, .i32⟩
  | _, _ => ⟨S20000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_values : Ref sig .tc := ⟨.hbm, 12, rfl⟩
abbrev main_indices : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v23 : Ref sig .tc := ⟨.hbm, 37, rfl⟩
abbrev main_values_6 : Ref sig .tc := ⟨.hbm, 38, rfl⟩
abbrev main_indices_7 : Ref sig .tc := ⟨.hbm, 39, rfl⟩
abbrev main_c_8 : Ref sig .tc := ⟨.hbm, 40, rfl⟩
abbrev main_call0_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc1_stg1_0 : Ref sig .tc := ⟨.vmem, 9, rfl⟩
abbrev cc1_stg2_0 : Ref sig .tc := ⟨.vmem, 10, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c4096_i32 : BitVec 32 := 4096#32
  let v0 : BitVec 32 := Scalar.addi c0_i32 c4096_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg10 : BitVec 32 := Scf.iv c0_i32 c1_i32 k0_t1
  let v5111 : Index := Scalar.indexCast arg10
  ![v5111.toNat]
def k0_off2 (v5112 : BitVec 32) : Fin 2 → Nat :=
  let v5113 : Index := Scalar.indexCast v5112
  let c0_2128 : Index := 0#32
  ![v5113.toNat, 0]

def k0_chk1 (v5112 : BitVec 32) : Prop :=
  (∀ a, (k0_off2 v5112) a + S1x16.size a ≤ S20096x16.size a)
theorem k0_off2_inb : ∀ (v5112 : BitVec 32) (k0_hw1 : k0_chk1 v5112), ∀ a, (k0_off2 v5112) a + S1x16.size a ≤ S20096x16.size a := fun v5112 k0_hw1 => k0_hw1

def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let v5116 : Index := Scalar.indexCast arg10
  let c0_2129 : Index := 0#32
  ![v5116.toNat, 0]
def k0_off4 (c0_i32_335 : BitVec 32) : Fin 2 → Nat :=
  let c0_i32_334 : BitVec 32 := 0#32
  let c512_i32 : BitVec 32 := 512#32
  let v735 : BitVec 32 := Scalar.muli c0_i32_334 c512_i32
  let v736 : BitVec 32 := Scalar.addi v735 c0_i32_335
  let v737 : Index := Scalar.indexCast v736
  let c0_336 : Index := 0#32
  ![v737.toNat, 0]
@[reducible] def k0_t2_loop : Scf.Loop 32 :=
  let c0_i32_722 : BitVec 32 := 0#32
  let c2_i32 : BitVec 32 := 2#32
  let v2001 : BitVec 32 := Scalar.addi c0_i32_722 c2_i32
  let c1_i32_723 : BitVec 32 := 1#32
  ⟨c0_i32_722, v2001, c1_i32_723⟩
def k0_off5 (k0_t2 : Fin k0_t2_loop.trips) (c0_i32_2129 : BitVec 32) : Fin 2 → Nat :=
  let c0_i32_722 : BitVec 32 := 0#32
  let c1_i32_723 : BitVec 32 := 1#32
  let arg10 : BitVec 32 := Scf.iv c0_i32_722 c1_i32_723 k0_t2
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t3_loop : Scf.Loop 32 :=
  let c0_i32_765 : BitVec 32 := 0#32
  let c2_i32_766 : BitVec 32 := 2#32
  let v2063 : BitVec 32 := Scalar.addi c0_i32_765 c2_i32_766
  let c1_i32_767 : BitVec 32 := 1#32
  ⟨c0_i32_765, v2063, c1_i32_767⟩
def k0_off6 (k0_t3 : Fin k0_t3_loop.trips) (c0_i32_2129 : BitVec 32) : Fin 2 → Nat :=
  let c0_i32_765 : BitVec 32 := 0#32
  let c1_i32_767 : BitVec 32 := 1#32
  let arg10 : BitVec 32 := Scf.iv c0_i32_765 c1_i32_767 k0_t3
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t4_loop : Scf.Loop 32 :=
  let c0_i32_819 : BitVec 32 := 0#32
  let c2_i32_820 : BitVec 32 := 2#32
  let v2170 : BitVec 32 := Scalar.addi c0_i32_819 c2_i32_820
  let c1_i32_821 : BitVec 32 := 1#32
  ⟨c0_i32_819, v2170, c1_i32_821⟩
def k0_off7 (k0_t4 : Fin k0_t4_loop.trips) (c0_i32_2129 : BitVec 32) : Fin 2 → Nat :=
  let c0_i32_819 : BitVec 32 := 0#32
  let c1_i32_821 : BitVec 32 := 1#32
  let arg10 : BitVec 32 := Scf.iv c0_i32_819 c1_i32_821 k0_t4
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t5_loop : Scf.Loop 32 :=
  let c0_i32_883 : BitVec 32 := 0#32
  let c2_i32_884 : BitVec 32 := 2#32
  let v2322 : BitVec 32 := Scalar.addi c0_i32_883 c2_i32_884
  let c1_i32_885 : BitVec 32 := 1#32
  ⟨c0_i32_883, v2322, c1_i32_885⟩
def k0_off8 (k0_t5 : Fin k0_t5_loop.trips) (c0_i32_2129 : BitVec 32) : Fin 2 → Nat :=
  let c0_i32_883 : BitVec 32 := 0#32
  let c1_i32_885 : BitVec 32 := 1#32
  let arg10 : BitVec 32 := Scf.iv c0_i32_883 c1_i32_885 k0_t5
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t6_loop : Scf.Loop 32 :=
  let c0_i32_957 : BitVec 32 := 0#32
  let c3_i32 : BitVec 32 := 3#32
  let v2519 : BitVec 32 := Scalar.addi c0_i32_957 c3_i32
  let c1_i32_958 : BitVec 32 := 1#32
  ⟨c0_i32_957, v2519, c1_i32_958⟩
def k0_off9 (k0_t6 : Fin k0_t6_loop.trips) (c0_i32_2129 : BitVec 32) : Fin 2 → Nat :=
  let c0_i32_957 : BitVec 32 := 0#32
  let c1_i32_958 : BitVec 32 := 1#32
  let arg10 : BitVec 32 := Scf.iv c0_i32_957 c1_i32_958 k0_t6
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t7_loop : Scf.Loop 32 :=
  let c0_i32_1000 : BitVec 32 := 0#32
  let c3_i32_1001 : BitVec 32 := 3#32
  let v2581 : BitVec 32 := Scalar.addi c0_i32_1000 c3_i32_1001
  let c1_i32_1002 : BitVec 32 := 1#32
  ⟨c0_i32_1000, v2581, c1_i32_1002⟩
def k0_off10 (k0_t7 : Fin k0_t7_loop.trips) (c0_i32_2129 : BitVec 32) : Fin 2 → Nat :=
  let c0_i32_1000 : BitVec 32 := 0#32
  let c1_i32_1002 : BitVec 32 := 1#32
  let arg10 : BitVec 32 := Scf.iv c0_i32_1000 c1_i32_1002 k0_t7
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t8_loop : Scf.Loop 32 :=
  let c0_i32_1054 : BitVec 32 := 0#32
  let c3_i32_1055 : BitVec 32 := 3#32
  let v2688 : BitVec 32 := Scalar.addi c0_i32_1054 c3_i32_1055
  let c1_i32_1056 : BitVec 32 := 1#32
  ⟨c0_i32_1054, v2688, c1_i32_1056⟩
def k0_off11 (k0_t8 : Fin k0_t8_loop.trips) (c0_i32_2129 : BitVec 32) : Fin 2 → Nat :=
  let c0_i32_1054 : BitVec 32 := 0#32
  let c1_i32_1056 : BitVec 32 := 1#32
  let arg10 : BitVec 32 := Scf.iv c0_i32_1054 c1_i32_1056 k0_t8
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t9_loop : Scf.Loop 32 :=
  let c0_i32_1118 : BitVec 32 := 0#32
  let c3_i32_1119 : BitVec 32 := 3#32
  let v2840 : BitVec 32 := Scalar.addi c0_i32_1118 c3_i32_1119
  let c1_i32_1120 : BitVec 32 := 1#32
  ⟨c0_i32_1118, v2840, c1_i32_1120⟩
def k0_off12 (k0_t9 : Fin k0_t9_loop.trips) (c0_i32_2129 : BitVec 32) : Fin 2 → Nat :=
  let c0_i32_1118 : BitVec 32 := 0#32
  let c1_i32_1120 : BitVec 32 := 1#32
  let arg10 : BitVec 32 := Scf.iv c0_i32_1118 c1_i32_1120 k0_t9
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t10_loop : Scf.Loop 32 :=
  let c0_i32_1192 : BitVec 32 := 0#32
  let c4_i32 : BitVec 32 := 4#32
  let v3037 : BitVec 32 := Scalar.addi c0_i32_1192 c4_i32
  let c1_i32_1193 : BitVec 32 := 1#32
  ⟨c0_i32_1192, v3037, c1_i32_1193⟩
def k0_off13 (k0_t10 : Fin k0_t10_loop.trips) (c0_i32_2129 : BitVec 32) : Fin 2 → Nat :=
  let c0_i32_1192 : BitVec 32 := 0#32
  let c1_i32_1193 : BitVec 32 := 1#32
  let arg10 : BitVec 32 := Scf.iv c0_i32_1192 c1_i32_1193 k0_t10
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t11_loop : Scf.Loop 32 :=
  let c0_i32_1235 : BitVec 32 := 0#32
  let c4_i32_1236 : BitVec 32 := 4#32
  let v3099 : BitVec 32 := Scalar.addi c0_i32_1235 c4_i32_1236
  let c1_i32_1237 : BitVec 32 := 1#32
  ⟨c0_i32_1235, v3099, c1_i32_1237⟩
def k0_off14 (k0_t11 : Fin k0_t11_loop.trips) (c0_i32_2129 : BitVec 32) : Fin 2 → Nat :=
  let c0_i32_1235 : BitVec 32 := 0#32
  let c1_i32_1237 : BitVec 32 := 1#32
  let arg10 : BitVec 32 := Scf.iv c0_i32_1235 c1_i32_1237 k0_t11
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t12_loop : Scf.Loop 32 :=
  let c0_i32_1289 : BitVec 32 := 0#32
  let c4_i32_1290 : BitVec 32 := 4#32
  let v3206 : BitVec 32 := Scalar.addi c0_i32_1289 c4_i32_1290
  let c1_i32_1291 : BitVec 32 := 1#32
  ⟨c0_i32_1289, v3206, c1_i32_1291⟩
def k0_off15 (k0_t12 : Fin k0_t12_loop.trips) (c0_i32_2129 : BitVec 32) : Fin 2 → Nat :=
  let c0_i32_1289 : BitVec 32 := 0#32
  let c1_i32_1291 : BitVec 32 := 1#32
  let arg10 : BitVec 32 := Scf.iv c0_i32_1289 c1_i32_1291 k0_t12
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t13_loop : Scf.Loop 32 :=
  let c0_i32_1353 : BitVec 32 := 0#32
  let c4_i32_1354 : BitVec 32 := 4#32
  let v3358 : BitVec 32 := Scalar.addi c0_i32_1353 c4_i32_1354
  let c1_i32_1355 : BitVec 32 := 1#32
  ⟨c0_i32_1353, v3358, c1_i32_1355⟩
def k0_off16 (k0_t13 : Fin k0_t13_loop.trips) (c0_i32_2129 : BitVec 32) : Fin 2 → Nat :=
  let c0_i32_1353 : BitVec 32 := 0#32
  let c1_i32_1355 : BitVec 32 := 1#32
  let arg10 : BitVec 32 := Scf.iv c0_i32_1353 c1_i32_1355 k0_t13
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t14_loop : Scf.Loop 32 :=
  let c0_i32_1427 : BitVec 32 := 0#32
  let c5_i32 : BitVec 32 := 5#32
  let v3555 : BitVec 32 := Scalar.addi c0_i32_1427 c5_i32
  let c1_i32_1428 : BitVec 32 := 1#32
  ⟨c0_i32_1427, v3555, c1_i32_1428⟩
def k0_off17 (k0_t14 : Fin k0_t14_loop.trips) (c0_i32_2129 : BitVec 32) : Fin 2 → Nat :=
  let c0_i32_1427 : BitVec 32 := 0#32
  let c1_i32_1428 : BitVec 32 := 1#32
  let arg10 : BitVec 32 := Scf.iv c0_i32_1427 c1_i32_1428 k0_t14
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t15_loop : Scf.Loop 32 :=
  let c0_i32_1470 : BitVec 32 := 0#32
  let c5_i32_1471 : BitVec 32 := 5#32
  let v3617 : BitVec 32 := Scalar.addi c0_i32_1470 c5_i32_1471
  let c1_i32_1472 : BitVec 32 := 1#32
  ⟨c0_i32_1470, v3617, c1_i32_1472⟩
def k0_off18 (k0_t15 : Fin k0_t15_loop.trips) (c0_i32_2129 : BitVec 32) : Fin 2 → Nat :=
  let c0_i32_1470 : BitVec 32 := 0#32
  let c1_i32_1472 : BitVec 32 := 1#32
  let arg10 : BitVec 32 := Scf.iv c0_i32_1470 c1_i32_1472 k0_t15
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t16_loop : Scf.Loop 32 :=
  let c0_i32_1524 : BitVec 32 := 0#32
  let c5_i32_1525 : BitVec 32 := 5#32
  let v3724 : BitVec 32 := Scalar.addi c0_i32_1524 c5_i32_1525
  let c1_i32_1526 : BitVec 32 := 1#32
  ⟨c0_i32_1524, v3724, c1_i32_1526⟩
def k0_off19 (k0_t16 : Fin k0_t16_loop.trips) (c0_i32_2129 : BitVec 32) : Fin 2 → Nat :=
  let c0_i32_1524 : BitVec 32 := 0#32
  let c1_i32_1526 : BitVec 32 := 1#32
  let arg10 : BitVec 32 := Scf.iv c0_i32_1524 c1_i32_1526 k0_t16
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t17_loop : Scf.Loop 32 :=
  let c0_i32_1588 : BitVec 32 := 0#32
  let c5_i32_1589 : BitVec 32 := 5#32
  let v3876 : BitVec 32 := Scalar.addi c0_i32_1588 c5_i32_1589
  let c1_i32_1590 : BitVec 32 := 1#32
  ⟨c0_i32_1588, v3876, c1_i32_1590⟩
def k0_off20 (k0_t17 : Fin k0_t17_loop.trips) (c0_i32_2129 : BitVec 32) : Fin 2 → Nat :=
  let c0_i32_1588 : BitVec 32 := 0#32
  let c1_i32_1590 : BitVec 32 := 1#32
  let arg10 : BitVec 32 := Scf.iv c0_i32_1588 c1_i32_1590 k0_t17
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t18_loop : Scf.Loop 32 :=
  let c0_i32_1662 : BitVec 32 := 0#32
  let c6_i32 : BitVec 32 := 6#32
  let v4073 : BitVec 32 := Scalar.addi c0_i32_1662 c6_i32
  let c1_i32_1663 : BitVec 32 := 1#32
  ⟨c0_i32_1662, v4073, c1_i32_1663⟩
def k0_off21 (k0_t18 : Fin k0_t18_loop.trips) (c0_i32_2129 : BitVec 32) : Fin 2 → Nat :=
  let c0_i32_1662 : BitVec 32 := 0#32
  let c1_i32_1663 : BitVec 32 := 1#32
  let arg10 : BitVec 32 := Scf.iv c0_i32_1662 c1_i32_1663 k0_t18
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t19_loop : Scf.Loop 32 :=
  let c0_i32_1705 : BitVec 32 := 0#32
  let c6_i32_1706 : BitVec 32 := 6#32
  let v4135 : BitVec 32 := Scalar.addi c0_i32_1705 c6_i32_1706
  let c1_i32_1707 : BitVec 32 := 1#32
  ⟨c0_i32_1705, v4135, c1_i32_1707⟩
def k0_off22 (k0_t19 : Fin k0_t19_loop.trips) (c0_i32_2129 : BitVec 32) : Fin 2 → Nat :=
  let c0_i32_1705 : BitVec 32 := 0#32
  let c1_i32_1707 : BitVec 32 := 1#32
  let arg10 : BitVec 32 := Scf.iv c0_i32_1705 c1_i32_1707 k0_t19
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t20_loop : Scf.Loop 32 :=
  let c0_i32_1759 : BitVec 32 := 0#32
  let c6_i32_1760 : BitVec 32 := 6#32
  let v4242 : BitVec 32 := Scalar.addi c0_i32_1759 c6_i32_1760
  let c1_i32_1761 : BitVec 32 := 1#32
  ⟨c0_i32_1759, v4242, c1_i32_1761⟩
def k0_off23 (k0_t20 : Fin k0_t20_loop.trips) (c0_i32_2129 : BitVec 32) : Fin 2 → Nat :=
  let c0_i32_1759 : BitVec 32 := 0#32
  let c1_i32_1761 : BitVec 32 := 1#32
  let arg10 : BitVec 32 := Scf.iv c0_i32_1759 c1_i32_1761 k0_t20
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t21_loop : Scf.Loop 32 :=
  let c0_i32_1823 : BitVec 32 := 0#32
  let c6_i32_1824 : BitVec 32 := 6#32
  let v4394 : BitVec 32 := Scalar.addi c0_i32_1823 c6_i32_1824
  let c1_i32_1825 : BitVec 32 := 1#32
  ⟨c0_i32_1823, v4394, c1_i32_1825⟩
def k0_off24 (k0_t21 : Fin k0_t21_loop.trips) (c0_i32_2129 : BitVec 32) : Fin 2 → Nat :=
  let c0_i32_1823 : BitVec 32 := 0#32
  let c1_i32_1825 : BitVec 32 := 1#32
  let arg10 : BitVec 32 := Scf.iv c0_i32_1823 c1_i32_1825 k0_t21
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t22_loop : Scf.Loop 32 :=
  let c0_i32_1897 : BitVec 32 := 0#32
  let c7_i32 : BitVec 32 := 7#32
  let v4591 : BitVec 32 := Scalar.addi c0_i32_1897 c7_i32
  let c1_i32_1898 : BitVec 32 := 1#32
  ⟨c0_i32_1897, v4591, c1_i32_1898⟩
def k0_off25 (k0_t22 : Fin k0_t22_loop.trips) (c0_i32_2129 : BitVec 32) : Fin 2 → Nat :=
  let c0_i32_1897 : BitVec 32 := 0#32
  let c1_i32_1898 : BitVec 32 := 1#32
  let arg10 : BitVec 32 := Scf.iv c0_i32_1897 c1_i32_1898 k0_t22
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t23_loop : Scf.Loop 32 :=
  let c0_i32_1940 : BitVec 32 := 0#32
  let c7_i32_1941 : BitVec 32 := 7#32
  let v4653 : BitVec 32 := Scalar.addi c0_i32_1940 c7_i32_1941
  let c1_i32_1942 : BitVec 32 := 1#32
  ⟨c0_i32_1940, v4653, c1_i32_1942⟩
def k0_off26 (k0_t23 : Fin k0_t23_loop.trips) (c0_i32_2129 : BitVec 32) : Fin 2 → Nat :=
  let c0_i32_1940 : BitVec 32 := 0#32
  let c1_i32_1942 : BitVec 32 := 1#32
  let arg10 : BitVec 32 := Scf.iv c0_i32_1940 c1_i32_1942 k0_t23
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t24_loop : Scf.Loop 32 :=
  let c0_i32_1994 : BitVec 32 := 0#32
  let c7_i32_1995 : BitVec 32 := 7#32
  let v4760 : BitVec 32 := Scalar.addi c0_i32_1994 c7_i32_1995
  let c1_i32_1996 : BitVec 32 := 1#32
  ⟨c0_i32_1994, v4760, c1_i32_1996⟩
def k0_off27 (k0_t24 : Fin k0_t24_loop.trips) (c0_i32_2129 : BitVec 32) : Fin 2 → Nat :=
  let c0_i32_1994 : BitVec 32 := 0#32
  let c1_i32_1996 : BitVec 32 := 1#32
  let arg10 : BitVec 32 := Scf.iv c0_i32_1994 c1_i32_1996 k0_t24
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
@[reducible] def k0_t25_loop : Scf.Loop 32 :=
  let c0_i32_2058 : BitVec 32 := 0#32
  let c7_i32_2059 : BitVec 32 := 7#32
  let v4912 : BitVec 32 := Scalar.addi c0_i32_2058 c7_i32_2059
  let c1_i32_2060 : BitVec 32 := 1#32
  ⟨c0_i32_2058, v4912, c1_i32_2060⟩
def k0_off28 (k0_t25 : Fin k0_t25_loop.trips) (c0_i32_2129 : BitVec 32) : Fin 2 → Nat :=
  let c0_i32_2058 : BitVec 32 := 0#32
  let c1_i32_2060 : BitVec 32 := 1#32
  let arg10 : BitVec 32 := Scf.iv c0_i32_2058 c1_i32_2060 k0_t25
  let c512_i32_2128 : BitVec 32 := 512#32
  let v5111 : BitVec 32 := Scalar.muli arg10 c512_i32_2128
  let v5112 : BitVec 32 := Scalar.addi v5111 c0_i32_2129
  let v5113 : Index := Scalar.indexCast v5112
  let c0_2130 : Index := 0#32
  ![v5113.toNat, 0]
abbrev stage0_0 : Fin 1 → Memref sig .tc .smem S4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c1024_i32 : BitVec 32 := 1024#32
  let v0 : BitVec 32 := Scalar.addi c0_i32 c1024_i32
  let c1_i32 : BitVec 32 := 1#32
  ⟨c0_i32, v0, c1_i32⟩
def k1_off1 (k1_t1 : Fin k1_t1_loop.trips) : Fin 1 → Nat :=
  let c0_i32 : BitVec 32 := 0#32
  let c1_i32 : BitVec 32 := 1#32
  let arg3 : BitVec 32 := Scf.iv c0_i32 c1_i32 k1_t1
  let v1 : Index := Scalar.indexCast arg3
  ![v1.toNat]
def k1_off2 (v2 : BitVec 32) : Fin 2 → Nat :=
  let v3 : Index := Scalar.indexCast v2
  let c0 : Index := 0#32
  ![v3.toNat, 0]

def k1_chk1 (v2 : BitVec 32) : Prop :=
  (∀ a, (k1_off2 v2) a + S1x8.size a ≤ S4096x8.size a)
theorem k1_off2_inb : ∀ (v2 : BitVec 32) (k1_hw1 : k1_chk1 v2), ∀ a, (k1_off2 v2) a + S1x8.size a ≤ S4096x8.size a := fun v2 k1_hw1 => k1_hw1

def k1_off3 (k1_t1 : Fin k1_t1_loop.trips) : Fin 2 → Nat :=
  let c0_i32 : BitVec 32 := 0#32
  let c1_i32 : BitVec 32 := 1#32
  let arg3 : BitVec 32 := Scf.iv c0_i32 c1_i32 k1_t1
  let v6 : Index := Scalar.indexCast arg3
  let c0_1 : Index := 0#32
  ![v6.toNat, 0]
abbrev stage1_0 : Fin 1 → Memref sig .tc .smem S1024 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S20000x7 : Shape := ⟨2, ![20000, 7]⟩
abbrev S20000 : Shape := ⟨1, ![20000]⟩
abbrev S_ : Shape := ⟨0, ![]⟩
abbrev S4000 : Shape := ⟨1, ![4000]⟩
abbrev S4000x1 : Shape := ⟨2, ![4000, 1]⟩
abbrev S4000x7 : Shape := ⟨2, ![4000, 7]⟩
abbrev S1x4000 : Shape := ⟨2, ![1, 4000]⟩
abbrev S4000x4000 : Shape := ⟨2, ![4000, 4000]⟩
abbrev S1 : Shape := ⟨1, ![1]⟩
abbrev S1000 : Shape := ⟨1, ![1000]⟩
abbrev S1000x1 : Shape := ⟨2, ![1000, 1]⟩
abbrev S1000x7 : Shape := ⟨2, ![1000, 7]⟩
abbrev S1000x8 : Shape := ⟨2, ![1000, 8]⟩

abbrev nBuf : Space → Nat
  | .hbm => 218
  | .vmem => 0
  | .smem => 0
  | _ => 0

abbrev hbmTy0_0 (i : Nat) : BufTy := match i % 128 with
  | 0 => ⟨S20000x7, .f32⟩
  | 1 => ⟨S20000, .f32⟩
  | 2 => ⟨S20000x7, .f32⟩
  | 3 => ⟨S20000, .f32⟩
  | 4 => ⟨S20000, .f32⟩
  | 5 => ⟨S_, .f32⟩
  | 6 => ⟨S20000, .f32⟩
  | 7 => ⟨S20000, .f32⟩
  | 8 => ⟨S_, .f32⟩
  | 9 => ⟨S20000, .f32⟩
  | 10 => ⟨S20000, .f32⟩
  | 11 => ⟨S4000, .f32⟩
  | 12 => ⟨S4000, .i32⟩
  | 13 => ⟨S_, .i32⟩
  | 14 => ⟨S4000, .i32⟩
  | 15 => ⟨S4000, .i1⟩
  | 16 => ⟨S_, .i32⟩
  | 17 => ⟨S4000, .i32⟩
  | 18 => ⟨S4000, .i32⟩
  | 19 => ⟨S4000, .i32⟩
  | 20 => ⟨S4000x1, .i32⟩
  | 21 => ⟨S4000x7, .f32⟩
  | 22 => ⟨S_, .i32⟩
  | 23 => ⟨S4000, .i32⟩
  | 24 => ⟨S4000, .i1⟩
  | 25 => ⟨S_, .i32⟩
  | 26 => ⟨S4000, .i32⟩
  | 27 => ⟨S4000, .i32⟩
  | 28 => ⟨S4000, .i32⟩
  | 29 => ⟨S4000x1, .i32⟩
  | 30 => ⟨S4000x7, .f32⟩
  | 31 => ⟨S4000x1, .f32⟩
  | 32 => ⟨S4000, .f32⟩
  | 33 => ⟨S4000x1, .f32⟩
  | 34 => ⟨S4000, .f32⟩
  | 35 => ⟨S4000x1, .f32⟩
  | 36 => ⟨S4000, .f32⟩
  | 37 => ⟨S4000x1, .f32⟩
  | 38 => ⟨S4000, .f32⟩
  | 39 => ⟨S4000x1, .f32⟩
  | 40 => ⟨S4000, .f32⟩
  | 41 => ⟨S4000x1, .f32⟩
  | 42 => ⟨S4000, .f32⟩
  | 43 => ⟨S4000x1, .f32⟩
  | 44 => ⟨S4000, .f32⟩
  | 45 => ⟨S4000x1, .f32⟩
  | 46 => ⟨S4000, .f32⟩
  | 47 => ⟨S4000x1, .f32⟩
  | 48 => ⟨S4000, .f32⟩
  | 49 => ⟨S4000x1, .f32⟩
  | 50 => ⟨S4000, .f32⟩
  | 51 => ⟨S4000x1, .f32⟩
  | 52 => ⟨S4000, .f32⟩
  | 53 => ⟨S4000x1, .f32⟩
  | 54 => ⟨S4000, .f32⟩
  | 55 => ⟨S4000x1, .f32⟩
  | 56 => ⟨S4000, .f32⟩
  | 57 => ⟨S4000x1, .f32⟩
  | 58 => ⟨S4000, .f32⟩
  | 59 => ⟨S4000, .f32⟩
  | 60 => ⟨S4000, .f32⟩
  | 61 => ⟨S4000, .f32⟩
  | 62 => ⟨S4000, .f32⟩
  | 63 => ⟨S4000, .f32⟩
  | 64 => ⟨S4000, .f32⟩
  | 65 => ⟨S4000, .f32⟩
  | 66 => ⟨S4000, .f32⟩
  | 67 => ⟨S4000, .f32⟩
  | 68 => ⟨S4000, .f32⟩
  | 69 => ⟨S4000, .f32⟩
  | 70 => ⟨S4000, .f32⟩
  | 71 => ⟨S4000, .f32⟩
  | 72 => ⟨S4000, .f32⟩
  | 73 => ⟨S4000, .f32⟩
  | 74 => ⟨S4000, .f32⟩
  | 75 => ⟨S4000, .f32⟩
  | 76 => ⟨S4000x1, .f32⟩
  | 77 => ⟨S4000x1, .f32⟩
  | 78 => ⟨S4000x1, .f32⟩
  | 79 => ⟨S4000x1, .f32⟩
  | 80 => ⟨S4000x1, .f32⟩
  | 81 => ⟨S4000x1, .f32⟩
  | 82 => ⟨S4000x1, .f32⟩
  | 83 => ⟨S4000x7, .f32⟩
  | 84 => ⟨S4000x1, .f32⟩
  | 85 => ⟨S4000, .f32⟩
  | 86 => ⟨S4000x1, .f32⟩
  | 87 => ⟨S4000, .f32⟩
  | 88 => ⟨S4000x1, .f32⟩
  | 89 => ⟨S4000, .f32⟩
  | 90 => ⟨S4000x1, .f32⟩
  | 91 => ⟨S4000, .f32⟩
  | 92 => ⟨S_, .f32⟩
  | 93 => ⟨S4000, .f32⟩
  | 94 => ⟨S4000, .f32⟩
  | 95 => ⟨S4000, .f32⟩
  | 96 => ⟨S_, .f32⟩
  | 97 => ⟨S4000, .f32⟩
  | 98 => ⟨S4000, .f32⟩
  | 99 => ⟨S4000, .f32⟩
  | 100 => ⟨S_, .f32⟩
  | 101 => ⟨S4000, .f32⟩
  | 102 => ⟨S4000, .f32⟩
  | 103 => ⟨S4000, .f32⟩
  | 104 => ⟨S_, .f32⟩
  | 105 => ⟨S4000, .f32⟩
  | 106 => ⟨S4000, .f32⟩
  | 107 => ⟨S4000, .f32⟩
  | 108 => ⟨S4000, .f32⟩
  | 109 => ⟨S4000x1, .f32⟩
  | 110 => ⟨S1x4000, .f32⟩
  | 111 => ⟨S4000x4000, .f32⟩
  | 112 => ⟨S4000x4000, .f32⟩
  | 113 => ⟨S4000x4000, .f32⟩
  | 114 => ⟨S4000x1, .f32⟩
  | 115 => ⟨S1x4000, .f32⟩
  | 116 => ⟨S4000x4000, .f32⟩
  | 117 => ⟨S4000x4000, .f32⟩
  | 118 => ⟨S4000x4000, .f32⟩
  | 119 => ⟨S4000x1, .f32⟩
  | 120 => ⟨S1x4000, .f32⟩
  | 121 => ⟨S4000x4000, .f32⟩
  | 122 => ⟨S4000x4000, .f32⟩
  | 123 => ⟨S4000x4000, .f32⟩
  | 124 => ⟨S4000x1, .f32⟩
  | 125 => ⟨S1x4000, .f32⟩
  | 126 => ⟨S4000x4000, .f32⟩
  | 127 => ⟨S4000x4000, .f32⟩
  | _ => ⟨S20000x7, .f32⟩

abbrev hbmTy0_1 (i : Nat) : BufTy := match i % 128 with
  | 0 => ⟨S4000x4000, .f32⟩
  | 1 => ⟨S4000x4000, .f32⟩
  | 2 => ⟨S_, .f32⟩
  | 3 => ⟨S_, .f32⟩
  | 4 => ⟨S4000x4000, .f32⟩
  | 5 => ⟨S4000x4000, .f32⟩
  | 6 => ⟨S4000x4000, .f32⟩
  | 7 => ⟨S_, .f32⟩
  | 8 => ⟨S_, .f32⟩
  | 9 => ⟨S4000x4000, .f32⟩
  | 10 => ⟨S4000x4000, .f32⟩
  | 11 => ⟨S4000x4000, .f32⟩
  | 12 => ⟨S4000x1, .f32⟩
  | 13 => ⟨S1x4000, .f32⟩
  | 14 => ⟨S4000x4000, .f32⟩
  | 15 => ⟨S4000x4000, .f32⟩
  | 16 => ⟨S4000x4000, .f32⟩
  | 17 => ⟨S4000x4000, .f32⟩
  | 18 => ⟨S_, .f32⟩
  | 19 => ⟨S4000x4000, .f32⟩
  | 20 => ⟨S4000x4000, .f32⟩
  | 21 => ⟨S4000x4000, .f32⟩
  | 22 => ⟨S4000, .i32⟩
  | 23 => ⟨S_, .i1⟩
  | 24 => ⟨S4000, .i1⟩
  | 25 => ⟨S_, .i32⟩
  | 26 => ⟨S_, .i32⟩
  | 27 => ⟨S4000x4000, .f32⟩
  | 28 => ⟨S4000, .i32⟩
  | 29 => ⟨S_, .i32⟩
  | 30 => ⟨S_, .i32⟩
  | 31 => ⟨S4000, .i1⟩
  | 32 => ⟨S_, .i32⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S1, .i1⟩
  | 43 => ⟨S_, .i1⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S1x4000, .f32⟩
  | 59 => ⟨S4000, .f32⟩
  | 60 => ⟨S_, .f32⟩
  | 61 => ⟨S4000, .f32⟩
  | 62 => ⟨S4000, .i1⟩
  | 63 => ⟨S_, .i32⟩
  | 64 => ⟨S4000, .i32⟩
  | 65 => ⟨S4000, .i1⟩
  | 66 => ⟨S4000, .i1⟩
  | 67 => ⟨S4000, .i1⟩
  | 68 => ⟨S4000, .i1⟩
  | 69 => ⟨S4000, .i1⟩
  | 70 => ⟨S4000, .i1⟩
  | 71 => ⟨S_, .i32⟩
  | 72 => ⟨S_, .i32⟩
  | 73 => ⟨S_, .f32⟩
  | 74 => ⟨S_, .f32⟩
  | 75 => ⟨S4000, .f32⟩
  | 76 => ⟨S4000, .f32⟩
  | 77 => ⟨S1000, .f32⟩
  | 78 => ⟨S1000, .i32⟩
  | 79 => ⟨S_, .i32⟩
  | 80 => ⟨S1000, .i32⟩
  | 81 => ⟨S1000, .i1⟩
  | 82 => ⟨S_, .i32⟩
  | 83 => ⟨S1000, .i32⟩
  | 84 => ⟨S1000, .i32⟩
  | 85 => ⟨S1000, .i32⟩
  | 86 => ⟨S1000x1, .i32⟩
  | 87 => ⟨S1000x7, .f32⟩
  | 88 => ⟨S1000x1, .f32⟩
  | 89 => ⟨S1000x8, .f32⟩
  | _ => ⟨S20000x7, .f32⟩

abbrev hbmTy (i : Nat) : BufTy := match i / 128 with
  | 0 => hbmTy0_0 i
  | 1 => hbmTy0_1 i
  | _ => ⟨S20000x7, .f32⟩

abbrev bufTy : (tb : Table) → Fin (tcTables nBuf tb) → BufTy
  | .hbm, ⟨i, _⟩ => hbmTy i
  | _, _ => ⟨S20000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_values : Ref sig .tc := ⟨.hbm, 11, rfl⟩
abbrev main_indices : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_4 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_5 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_cst_6 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_7 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_cst_8 : Ref sig .tc := ⟨.hbm, 130, rfl⟩
abbrev main_call0_v0 : Ref sig .tc := ⟨.hbm, 131, rfl⟩
abbrev main_call0_v1 : Ref sig .tc := ⟨.hbm, 132, rfl⟩
abbrev main_v115 : Ref sig .tc := ⟨.hbm, 133, rfl⟩
abbrev main_v116 : Ref sig .tc := ⟨.hbm, 134, rfl⟩
abbrev main_cst_9 : Ref sig .tc := ⟨.hbm, 135, rfl⟩
abbrev main_call1_v0 : Ref sig .tc := ⟨.hbm, 136, rfl⟩
abbrev main_call1_v1 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_cst_10 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_c_11 : Ref sig .tc := ⟨.hbm, 151, rfl⟩
abbrev main_v129 : Ref sig .tc := ⟨.hbm, 152, rfl⟩
abbrev main_c_12 : Ref sig .tc := ⟨.hbm, 153, rfl⟩
abbrev main_c_13 : Ref sig .tc := ⟨.hbm, 154, rfl⟩
abbrev main_v130_0 : Ref sig .tc := ⟨.hbm, 155, rfl⟩
abbrev main_v130_1 : Ref sig .tc := ⟨.hbm, 156, rfl⟩
abbrev main_v130_2 : Ref sig .tc := ⟨.hbm, 157, rfl⟩
abbrev main_v130_3 : Ref sig .tc := ⟨.hbm, 158, rfl⟩
abbrev main_v130_4 : Ref sig .tc := ⟨.hbm, 159, rfl⟩
abbrev main_while0c_c_23 : Ref sig .tc := ⟨.hbm, 160, rfl⟩
abbrev main_while0c_v141 : Ref sig .tc := ⟨.hbm, 161, rfl⟩
abbrev main_while0b_c_23 : Ref sig .tc := ⟨.hbm, 162, rfl⟩
abbrev main_while0b_v141 : Ref sig .tc := ⟨.hbm, 163, rfl⟩
abbrev main_while0b_c_24 : Ref sig .tc := ⟨.hbm, 164, rfl⟩
abbrev main_while0b_v142 : Ref sig .tc := ⟨.hbm, 165, rfl⟩
abbrev main_while0b_v143 : Ref sig .tc := ⟨.hbm, 166, rfl⟩
abbrev main_while0b_c_25 : Ref sig .tc := ⟨.hbm, 167, rfl⟩
abbrev main_while0b_v144 : Ref sig .tc := ⟨.hbm, 168, rfl⟩
abbrev main_while0b_v145 : Ref sig .tc := ⟨.hbm, 169, rfl⟩
abbrev main_while0b_v146 : Ref sig .tc := ⟨.hbm, 170, rfl⟩
abbrev main_while0b_v147 : Ref sig .tc := ⟨.hbm, 171, rfl⟩
abbrev main_while0b_v148 : Ref sig .tc := ⟨.hbm, 172, rfl⟩
abbrev main_while0b_c_26 : Ref sig .tc := ⟨.hbm, 173, rfl⟩
abbrev main_while0b_v149 : Ref sig .tc := ⟨.hbm, 174, rfl⟩
abbrev main_while0b_c_27 : Ref sig .tc := ⟨.hbm, 175, rfl⟩
abbrev main_while0b_v150 : Ref sig .tc := ⟨.hbm, 176, rfl⟩
abbrev main_while0b_v151 : Ref sig .tc := ⟨.hbm, 177, rfl⟩
abbrev main_while0b_c_28 : Ref sig .tc := ⟨.hbm, 178, rfl⟩
abbrev main_while0b_c_29 : Ref sig .tc := ⟨.hbm, 179, rfl⟩
abbrev main_while0b_v152 : Ref sig .tc := ⟨.hbm, 180, rfl⟩
abbrev main_while0b_c_30 : Ref sig .tc := ⟨.hbm, 181, rfl⟩
abbrev main_while0b_c_31 : Ref sig .tc := ⟨.hbm, 182, rfl⟩
abbrev main_while0b_v153 : Ref sig .tc := ⟨.hbm, 183, rfl⟩
abbrev main_while0b_c_32 : Ref sig .tc := ⟨.hbm, 184, rfl⟩
abbrev main_while0b_v154 : Ref sig .tc := ⟨.hbm, 185, rfl⟩
abbrev main_while0b_v155 : Ref sig .tc := ⟨.hbm, 186, rfl⟩
abbrev main_while0b_v156 : Ref sig .tc := ⟨.hbm, 187, rfl⟩
abbrev main_while0b_cst_33 : Ref sig .tc := ⟨.hbm, 188, rfl⟩
abbrev main_while0b_v157 : Ref sig .tc := ⟨.hbm, 189, rfl⟩
abbrev main_while0b_v158 : Ref sig .tc := ⟨.hbm, 190, rfl⟩
abbrev main_while0b_v159 : Ref sig .tc := ⟨.hbm, 191, rfl⟩
abbrev main_while0b_v160 : Ref sig .tc := ⟨.hbm, 192, rfl⟩
abbrev main_while0b_v161 : Ref sig .tc := ⟨.hbm, 193, rfl⟩
abbrev main_while0b_v162 : Ref sig .tc := ⟨.hbm, 194, rfl⟩
abbrev main_while0b_v163 : Ref sig .tc := ⟨.hbm, 195, rfl⟩
abbrev main_while0b_v164 : Ref sig .tc := ⟨.hbm, 196, rfl⟩
abbrev main_while0b_v165 : Ref sig .tc := ⟨.hbm, 197, rfl⟩
abbrev main_while0b_v166 : Ref sig .tc := ⟨.hbm, 198, rfl⟩
abbrev main_while0b_c_34 : Ref sig .tc := ⟨.hbm, 199, rfl⟩
abbrev main_while0b_v167 : Ref sig .tc := ⟨.hbm, 200, rfl⟩
abbrev main_cst_14 : Ref sig .tc := ⟨.hbm, 201, rfl⟩
abbrev main_call2_v0 : Ref sig .tc := ⟨.hbm, 202, rfl⟩
abbrev main_call2_v1 : Ref sig .tc := ⟨.hbm, 203, rfl⟩
abbrev main_v131 : Ref sig .tc := ⟨.hbm, 204, rfl⟩
abbrev main_values_15 : Ref sig .tc := ⟨.hbm, 205, rfl⟩
abbrev main_indices_16 : Ref sig .tc := ⟨.hbm, 206, rfl⟩
abbrev main_c_17 : Ref sig .tc := ⟨.hbm, 207, rfl⟩
abbrev main_v132 : Ref sig .tc := ⟨.hbm, 208, rfl⟩
abbrev main_v133 : Ref sig .tc := ⟨.hbm, 209, rfl⟩
abbrev main_c_18 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩

abbrev nD : Nat := 1
abbrev τ : Topo := Topo.v7x

variable {F : FTy → Type} [FloatOps F]

abbrev main_while0_count : Scf.Loop 32 := ⟨0#32, 4000#32, 1#32⟩
-- ==== Proof.Body.lean ====
/-
  The body of the suppression kernel as a short program of its own: the gather loop is left to its
  caller; what follows it — the box decoding, the transposed copy of the boxes, thirty-two blocks of
  128 candidates, the masked scores — is written once per block, at a block number.  Everything is
  over any scalar type `F`, any signature and any labels, so that one text serves both printed programs.
-/
module

public import Idealize.ShloMosaic.Lib.Pipeline
public import Idealize.ShloMosaic.Lib.Scf
public import Idealize.ShloMosaic.Lib.Sig
public import Idealize.ShloMosaic.Lib.StableHlo
public import Idealize.ShloMosaic.PureOps

@[expose] public section

noncomputable section

namespace Cert.Nms

open Idealize.ShloMosaic Idealize.SL.Sem

/-- An `n` by `m` array. -/
abbrev Sh (n m : ℕ) : Shape := ⟨2, ![n, m]⟩

/-- A vector of `n` elements. -/
abbrev Sv (n : ℕ) : Shape := ⟨1, ![n]⟩

variable {F : FTy → Type} [FloatOps F]

/-! ## Values -/

/-- The dimension numbers of a row times a square matrix. -/
def dotRow : DotDims (Sh 1 128) (Sh 128 128) (Sh 1 128) where
  lhsContracting := [1]
  rhsContracting := [0]
  lhsNonContracting := [0]
  rhsNonContracting := [1]
  lhsBatch := []
  rhsBatch := []
  wf := by decide

/-- The dimension numbers of a square matrix times a row read as a column. -/
def dotCol : DotDims (Sh 128 128) (Sh 1 128) (Sh 128 1) where
  lhsContracting := [1]
  rhsContracting := [1]
  lhsNonContracting := [0]
  rhsNonContracting := [0]
  lhsBatch := []
  rhsBatch := []
  wf := by decide

/-- One literal at every place. -/
abbrev lit (n m : ℕ) (b : BitVec 32) : FVec F (Sh n m) .f32 := broadcast (Sh n m) (Scalar.ofBits (F := F) .f32 b)

/-- A column spread over 128 columns. -/
abbrev spreadC {α : Type} (x : (Sh 128 1).Idx → α) : (Sh 128 128).Idx → α := broadcastTo (Sh 128 128) x

/-- A row spread over 128 rows. -/
abbrev spreadR {α : Type} (x : (Sh 1 128).Idx → α) : (Sh 128 128).Idx → α := broadcastTo (Sh 128 128) x

/-- The overlap of the boxes of a column (lower x, upper x, lower y, upper y, area) with those of a row. -/
def iou (r0 r1 r2 r3 r4 : FVec F (Sh 128 1) .f32) (c0 c1 c2 c3 c4 : FVec F (Sh 1 128) .f32) : FVec F (Sh 128 128) .f32 :=
  let inter := mulf (maximumf (lit 128 128 0x00000000#32) (subf (minimumf (spreadC r1) (spreadR c1)) (maximumf (spreadC r0) (spreadR c0))))
    (maximumf (lit 128 128 0x00000000#32) (subf (minimumf (spreadC r3) (spreadR c3)) (maximumf (spreadC r2) (spreadR c2))))
  divf inter (maximumf (subf (addf (spreadC r4) (spreadR c4)) inter) (lit 128 128 0x322BCC77#32))

/-- The tall slice: column `k` of eight. -/
abbrev colOf (k : ℕ) (g : FVec F (Sh 128 8) .f32) (h : (Sh 128 8).Slices ![0, k] (Sh 128 1)) : FVec F (Sh 128 1) .f32 :=
  extractStridedSlice (Sh 128 1) ![0, k] g h

/-- What one earlier block adds to the suppressions of a block: a place is 1 when a kept box of the
    earlier block overlaps its box by more than the threshold. -/
def aStep (g : FVec F (Sh 128 8) .f32) (c0 c1 c2 c3 c4 sup : FVec F (Sh 1 128) .f32) : FVec F (Sh 1 128) .f32 :=
  maximumf sup (shapeCast (Sh 1 128)
    (multiReduction .maximumf [0] (Sv 128)
      (select (andi
          (cmpf .ogt (iou (colOf 0 g (by decide)) (colOf 1 g (by decide)) (colOf 2 g (by decide)) (colOf 3 g (by decide)) (colOf 4 g (by decide)) c0 c1 c2 c3 c4)
            (lit 128 128 0x3F333333#32))
          (spreadC (cmpf .ogt (colOf 5 g (by decide)) (lit 128 1 0x00000000#32))))
        (lit 128 128 0x3F800000#32) (lit 128 128 0x00000000#32))
      0xFF800000#32 (by decide) (.inl rfl) rfl) (by decide))

/-- Row numbers and column numbers of the square. -/
abbrev rowNo : IVec (Sh 128 128) 32 := iota .tc (Sh 128 128) 32 [0] (by decide)
abbrev colNo : IVec (Sh 128 128) 32 := iota .tc (Sh 128 128) 32 [1] (by decide)

/-- The identity matrix. -/
def eye : FVec F (Sh 128 128) .f32 := sitofp .f32 (extui 32 (cmpi .eq rowNo colNo) (by decide))

/-- The suppressions inside a block: row before column, overlap more than the threshold. -/
def mMat (r0 r1 r2 r3 r4 : FVec F (Sh 128 1) .f32) (c0 c1 c2 c3 c4 : FVec F (Sh 1 128) .f32) : FVec F (Sh 128 128) .f32 :=
  select (andi (cmpf .ogt (iou r0 r1 r2 r3 r4 c0 c1 c2 c3 c4) (lit 128 128 0x3F333333#32)) (cmpi .sgt colNo rowNo))
    (lit 128 128 0x3F800000#32) (lit 128 128 0x00000000#32)

/-- The candidates of a block that no earlier block suppresses. -/
def kl0 (sup : FVec F (Sh 1 128) .f32) : FVec F (Sh 1 128) .f32 := subf (lit 1 128 0x3F800000#32) sup

/-- The start of the remembered iterate: one less everywhere. -/
def pv0 (sup : FVec F (Sh 1 128) .f32) : FVec F (Sh 1 128) .f32 := subf (kl0 sup) (lit 1 128 0x3F800000#32)

/-- A row turned into a column. -/
def turn (kl : FVec F (Sh 1 128) .f32) : FVec F (Sh 128 1) .f32 := matmul dotCol none eye kl (constant (Sh 128 1) .f32 0x00000000#32)

/-- Column `k` of the sixteen gathered ones. -/
abbrev gcol (k : ℕ) (g : FVec F (Sh 4096 16) .f32) (h : (Sh 4096 16).Slices ![0, k] (Sh 4096 1)) : FVec F (Sh 4096 1) .f32 :=
  extractStridedSlice (Sh 4096 1) ![0, k] g h

/-- Half a size. -/
abbrev half (x : FVec F (Sh 4096 1) .f32) : FVec F (Sh 4096 1) .f32 := mulf x (lit 4096 1 0x3F000000#32)

/-- The diagonal of an anchor's base. -/
def diag (g : FVec F (Sh 4096 16) .f32) : FVec F (Sh 4096 1) .f32 :=
  sqrt (addf (mulf (gcol 3 g (by decide)) (gcol 3 g (by decide))) (mulf (gcol 4 g (by decide)) (gcol 4 g (by decide))))

/-- The decoded centre, size and angle, column by column. -/
def dx (g : FVec F (Sh 4096 16) .f32) : FVec F (Sh 4096 1) .f32 := addf (mulf (gcol 8 g (by decide)) (diag g)) (gcol 0 g (by decide))
def dy (g : FVec F (Sh 4096 16) .f32) : FVec F (Sh 4096 1) .f32 := addf (mulf (gcol 9 g (by decide)) (diag g)) (gcol 1 g (by decide))
def dz (g : FVec F (Sh 4096 16) .f32) : FVec F (Sh 4096 1) .f32 := addf (mulf (gcol 10 g (by decide)) (gcol 5 g (by decide))) (gcol 2 g (by decide))
def dw (g : FVec F (Sh 4096 16) .f32) : FVec F (Sh 4096 1) .f32 := mulf (exp (gcol 11 g (by decide))) (gcol 3 g (by decide))
def dl (g : FVec F (Sh 4096 16) .f32) : FVec F (Sh 4096 1) .f32 := mulf (exp (gcol 12 g (by decide))) (gcol 4 g (by decide))
def dh (g : FVec F (Sh 4096 16) .f32) : FVec F (Sh 4096 1) .f32 := mulf (exp (gcol 13 g (by decide))) (gcol 5 g (by decide))
def dr (g : FVec F (Sh 4096 16) .f32) : FVec F (Sh 4096 1) .f32 := addf (gcol 14 g (by decide)) (gcol 6 g (by decide))

/-- Eight columns fill eight places. -/
theorem cat8 : Shape.Concatenates [Sh 4096 1, Sh 4096 1, Sh 4096 1, Sh 4096 1, Sh 4096 1, Sh 4096 1, Sh 4096 1, Sh 4096 1] (Sh 4096 8) 1 := by decide

/-- Eight columns side by side. -/
def cols8 (a b c d e f g h : FVec F (Sh 4096 1) .f32) : FVec F (Sh 4096 8) .f32 :=
  concatenate (Sh 4096 8) 1 [⟨Sh 4096 1, a⟩, ⟨Sh 4096 1, b⟩, ⟨Sh 4096 1, c⟩, ⟨Sh 4096 1, d⟩, ⟨Sh 4096 1, e⟩, ⟨Sh 4096 1, f⟩, ⟨Sh 4096 1, g⟩, ⟨Sh 4096 1, h⟩]
    cat8

/-- The proposals. -/
def propOf (g : FVec F (Sh 4096 16) .f32) : FVec F (Sh 4096 8) .f32 :=
  cols8 (dx g) (dy g) (dz g) (dw g) (dl g) (dh g) (dr g) (lit 4096 1 0x00000000#32)

/-- The axis-parallel boxes: bounds, area, and a column of ones that the blocks overwrite. -/
def geomOf (g : FVec F (Sh 4096 16) .f32) : FVec F (Sh 4096 8) .f32 :=
  cols8 (subf (dx g) (half (dw g))) (addf (dx g) (half (dw g))) (subf (dy g) (half (dl g))) (addf (dy g) (half (dl g)))
    (mulf (dw g) (dl g)) (lit 4096 1 0x3F800000#32) (lit 4096 1 0x00000000#32) (lit 4096 1 0x00000000#32)

/-- The scores of the kept candidates, and minus one for the others. -/
def maskOf (k sc : FVec F (Sh 4096 1) .f32) : FVec F (Sh 4096 1) .f32 :=
  select (cmpf .ogt k (lit 4096 1 0x00000000#32)) (shapeCast (Sh 4096 1) sc (by decide)) (lit 4096 1 0xBF800000#32)

/-- One sweep of the fixed-point iteration: a candidate stays unless a remaining one suppresses it. -/
def sweep (M : FVec F (Sh 128 128) .f32) (kl a : FVec F (Sh 1 128) .f32) : FVec F (Sh 1 128) .f32 :=
  select (cmpf .ogt (matmul dotRow none a M (constant (Sh 1 128) .f32 0x00000000#32)) (lit 1 128 0x00000000#32)) (lit 1 128 0x00000000#32) kl

/-- Whether two iterates differ, as the loop decides it. -/
def differ (a p : FVec F (Sh 1 128) .f32) : BitVec 1 :=
  Scalar.cmpf .ogt (extractAt ![0, 0, 0]
    (shapeCast ⟨3, ![1, 1, 1]⟩
      (multiReduction .maximumf [1, 2] (Sv 1)
        (shapeCast ⟨3, ![1, 1, 128]⟩ (select (cmpf .one a p) (lit 1 128 0x3F800000#32) (lit 1 128 0x00000000#32)) (by decide))
        0xFF800000#32 (by decide) (.inl rfl) rfl) (by decide)) (by decide)) (Scalar.ofBits (F := F) .f32 0x00000000#32)

/-! ## Programs -/

variable {nD : ℕ} {τ : Topo} {sig : RefSig} {Λ : Labels} {α : Type}

local notation "PG" => Prog (TpuEff nD τ sig (Elt F) Λ (Proc.tc : Proc τ))

/-- A window that fits along both axes lies inside a matrix. -/
theorem inb2 {n m p q i j : ℕ} (h : i + p ≤ n ∧ j + q ≤ m) : ∀ a, (![i, j] : Fin 2 → ℕ) a + (![p, q] : Fin 2 → ℕ) a ≤ (Sh n m).size a := by
  intro a; match a with
  | 0 => exact h.1
  | 1 => exact h.2

/-- A matrix with both sides positive has an entry. -/
theorem pos2 {p q : ℕ} (h : 0 < p ∧ 0 < q) : 0 < (Sh p q).numel := by
  simp [Shape.numel, Fin.prod_univ_two, h.1, h.2]

/-- The rectangle of `p` by `q` elements at `(i, j)`. -/
abbrev rc {n m : ℕ} (p q i j : ℕ) (h : i + p ≤ n ∧ j + q ≤ m) : Rect (Sh n m) := Rect.unit (s := Sh n m) ![i, j] ![p, q] (inb2 h)

/-- Load a rectangle, then go on with what it holds. -/
def ld {n m : ℕ} (a : Memref sig .tc .vmem (Sh n m) .f32) (p q i j : ℕ) (h : i + p ≤ n ∧ j + q ≤ m) (hp : 0 < p ∧ 0 < q)
    (k : FVec F (Sh p q) .f32 → PG α) : PG α :=
  .op (TpuEff.load (Val := Elt F) (e := .f32) a (rc p q i j h).toLoadRect (View.loadsAt_vmem (pos2 hp))) k

/-- Load a rectangle for nothing, store into it, then go on. -/
def st {n m : ℕ} (a : Memref sig .tc .vmem (Sh n m) .f32) (p q i j : ℕ) (h : i + p ≤ n ∧ j + q ≤ m) (hp : 0 < p ∧ 0 < q)
    (v : FVec F (Sh p q) .f32) (k : PG α) : PG α :=
  ld a p q i j h hp fun _ =>
    .op (TpuEff.store (Val := Elt F) (e := .f32) a (rc p q i j h) v Finset.univ (View.stores_vmem_bits_univ (pos2 hp) rfl) (.inl rfl)) fun _ => k

/-- `n` earlier blocks, from the `a`-th on, added to the suppressions. -/
def aLoop (arg6 : Memref sig .tc .vmem (Sh 4096 8) .f32) (c0 c1 c2 c3 c4 : FVec F (Sh 1 128) .f32) :
    (n a : ℕ) → a + n ≤ 32 → FVec F (Sh 1 128) .f32 → (FVec F (Sh 1 128) .f32 → PG α) → PG α
  | 0, _, _, sup, k => k sup
  | n + 1, a, h, sup, k =>
    ld arg6 128 8 (128 * a) 0 (by omega) (by decide) fun g => aLoop arg6 c0 c1 c2 c3 c4 n (a + 1) (by omega) (aStep g c0 c1 c2 c3 c4 sup) k

/-- One block of 128 candidates: the suppressions by the earlier blocks, those inside the block, the
    fixed-point iteration (a call, `callW`), and the block's kept column. -/
def block (arg6 : Memref sig .tc .vmem (Sh 4096 8) .f32) (arg7 : Memref sig .tc .vmem (Sh 8 4096) .f32) (arg8 arg9 : Memref sig .tc .vmem (Sh 1 128) .f32)
    (callW : ℕ → FVec F (Sh 128 128) .f32 → FVec F (Sh 1 128) .f32 → PG α → PG α) (b : ℕ) (hb : b < 32) (k : PG α) : PG α :=
  ld arg7 1 128 0 (128 * b) (by omega) (by decide) fun c0 =>
  ld arg7 1 128 1 (128 * b) (by omega) (by decide) fun c1 =>
  ld arg7 1 128 2 (128 * b) (by omega) (by decide) fun c2 =>
  ld arg7 1 128 3 (128 * b) (by omega) (by decide) fun c3 =>
  ld arg7 1 128 4 (128 * b) (by omega) (by decide) fun c4 =>
  ld arg7 1 128 6 (128 * b) (by omega) (by decide) fun sup0 =>
  aLoop arg6 c0 c1 c2 c3 c4 b 0 (by omega) sup0 fun sup =>
  ld arg6 128 1 (128 * b) 0 (by omega) (by decide) fun r0 =>
  ld arg6 128 1 (128 * b) 1 (by omega) (by decide) fun r1 =>
  ld arg6 128 1 (128 * b) 2 (by omega) (by decide) fun r2 =>
  ld arg6 128 1 (128 * b) 3 (by omega) (by decide) fun r3 =>
  ld arg6 128 1 (128 * b) 4 (by omega) (by decide) fun r4 =>
  st arg8 1 128 0 0 (by omega) (by decide) (shapeCast (Sh 1 128) (kl0 sup) (by decide)) <|
  st arg9 1 128 0 0 (by omega) (by decide) (shapeCast (Sh 1 128) (pv0 sup) (by decide)) <|
  callW b (mMat r0 r1 r2 r3 r4 c0 c1 c2 c3 c4) (kl0 sup) <|
  ld arg8 1 128 0 0 (by omega) (by decide) fun kl =>
  st arg6 128 1 (128 * b) 5 (by omega) (by decide) (shapeCast (Sh 128 1) (turn kl) (by decide)) k

/-- `n` blocks from the `b`-th on. -/
def blocks (arg6 : Memref sig .tc .vmem (Sh 4096 8) .f32) (arg7 : Memref sig .tc .vmem (Sh 8 4096) .f32) (arg8 arg9 : Memref sig .tc .vmem (Sh 1 128) .f32)
    (callW : ℕ → FVec F (Sh 128 128) .f32 → FVec F (Sh 1 128) .f32 → PG α → PG α) : (n b : ℕ) → b + n ≤ 32 → PG α → PG α
  | 0, _, _, k => k
  | n + 1, b, h, k => block arg6 arg7 arg8 arg9 callW b (by omega) (blocks arg6 arg7 arg8 arg9 callW n (b + 1) (by omega) k)

/-- The boxes of `n` blocks, from the `b`-th on, copied transposed. -/
def turns (arg6 : Memref sig .tc .vmem (Sh 4096 8) .f32) (arg7 : Memref sig .tc .vmem (Sh 8 4096) .f32) : (n b : ℕ) → b + n ≤ 32 → PG α → PG α
  | 0, _, _, k => k
  | n + 1, b, h, k =>
    ld arg6 128 8 (128 * b) 0 (by omega) (by decide) fun g =>
    st arg7 8 128 0 (128 * b) (by omega) (by decide) (shapeCast (Sh 8 128) (transpose (Sh 8 128) [1, 0] g (by decide)) (by decide)) <|
    turns arg6 arg7 n (b + 1) (by omega) k

/-- Everything after the gather loop. -/
def rest (arg2 : Memref sig .tc .vmem (Sh 4096 1) .f32) (arg3 : Memref sig .tc .vmem (Sh 4096 8) .f32) (arg4 : Memref sig .tc .vmem (Sh 4096 1) .f32)
    (arg5 : Memref sig .tc .vmem (Sh 4096 16) .f32) (arg6 : Memref sig .tc .vmem (Sh 4096 8) .f32) (arg7 : Memref sig .tc .vmem (Sh 8 4096) .f32)
    (arg8 arg9 : Memref sig .tc .vmem (Sh 1 128) .f32)
    (callW : ℕ → FVec F (Sh 128 128) .f32 → FVec F (Sh 1 128) .f32 → PG PUnit → PG PUnit) : PG PUnit :=
  ld arg5 4096 16 0 0 (by omega) (by decide) fun g =>
  st arg3 4096 8 0 0 (by omega) (by decide) (propOf g) <|
  st arg6 4096 8 0 0 (by omega) (by decide) (shapeCast (Sh 4096 8) (geomOf g) (by decide)) <|
  turns arg6 arg7 32 0 (by omega) <|
  blocks arg6 arg7 arg8 arg9 callW 32 0 (by omega) <|
  ld arg6 4096 1 0 5 (by omega) (by decide) fun kc =>
  ld arg2 4096 1 0 0 (by omega) (by decide) fun sc =>
  st arg4 4096 1 0 0 (by omega) (by decide) (maskOf kc sc) <|
  .ret ⟨⟩

end Cert.Nms
-- ==== Proof.BodyEq.lean ====
/-
  The printed suppression kernel is the gather loop followed by the program `Cert.Nms.rest`.
-/
module

public import proofs.«01_k».proof.KernelIdeal
public import proofs.«01_k».proof.Proof.Body
public import Idealize.ShloMosaic.Lib.Pipeline.Regions

@[expose] public section

noncomputable section

namespace Cert.KernelIdeal.Nms

open Idealize.ShloMosaic Idealize.SL.Sem
open Cert.KernelIdeal Cert.Nms

variable {F : FTy → Type} [FloatOps F] [Facts]
open Facts₀ Facts

/-- The gather loop: row `k` of the scratch becomes the row of the table that word `k` names. -/
def gather (arg0 : Memref sig .tc .smem S4096 .i32) (arg1 : Memref sig .tc .vmem S20096x16 .f32) (arg5 : Memref sig .tc .vmem S4096x16 .f32) :
    Prog (TpuEff nD τ sig (Elt F) (Λ₀ F) .tc) PUnit :=
  Scf.Loop.for k0_t1_loop k0_t1_ok ⟨⟩ fun k0_t1 _ => do
    let v5112 : Elt F .i32 ← smemLoad arg0 (Rect.unit (s := S4096) (k0_off1 k0_t1) S1.size (k0_off1_inb k0_t1)) numel1_S1 rfl
    have k0_hw1 : k0_chk1 v5112 := (← Prog.lift (TpuEff.assume (k0_chk1 v5112) (k0_chk1.dec v5112))).down
    let v5114 : Vec F S1x16 .f32 ← Prog.lift (.load arg1 (Rect.unit (s := S20096x16) (k0_off2 v5112) S1x16.size (k0_off2_inb v5112 k0_hw1)).toLoadRect (View.loadsAt_vmem h_S1x16))
    let _v5117 : Vec F S1x16 .f32 ← Prog.lift (.load arg5 (Rect.unit (s := S4096x16) (k0_off3 k0_t1) S1x16.size (k0_off3_inb k0_t1)).toLoadRect (View.loadsAt_vmem h_S1x16))
    Prog.lift (.store arg5 (Rect.unit (s := S4096x16) (k0_off3 k0_t1) S1x16.size (k0_off3_inb k0_t1))
      (shapeCast S1x16 (shapeCast S1x16 v5114 shapeCasts_S1x16_S1x16) shapeCasts_S1x16_S1x16) Finset.univ (View.stores_vmem_bits_univ h_S1x16 rfl) (.inl rfl))
    pure ⟨⟩

/-- The call of block `b`'s fixed-point loop, then `k`. -/
def callW (arg8 : Memref sig .tc .vmem S1x128 .f32) (h8 : arg8.IsWhole) (arg9 : Memref sig .tc .vmem S1x128 .f32) (h9 : arg9.IsWhole) (b : ℕ)
    (M : FVec F S128x128 .f32) (kl : FVec F S1x128 .f32) (k : Prog (TpuEff nD τ sig (Elt F) (Λ₀ F) .tc) PUnit) :
    Prog (TpuEff nD τ sig (Elt F) (Λ₀ F) .tc) PUnit :=
  match b with
  | 0 => .op (.call (2 : (Λ₀ F).Label) ⟨arg8, h8, arg9, h9, M, kl, 0#32⟩) fun _ => k
  | 1 => .op (.call (3 : (Λ₀ F).Label) ⟨arg8, h8, arg9, h9, M, kl, 0#32⟩) fun _ => k
  | 2 => .op (.call (4 : (Λ₀ F).Label) ⟨arg8, h8, arg9, h9, M, kl, 0#32⟩) fun _ => k
  | 3 => .op (.call (5 : (Λ₀ F).Label) ⟨arg8, h8, arg9, h9, M, kl, 0#32⟩) fun _ => k
  | 4 => .op (.call (6 : (Λ₀ F).Label) ⟨arg8, h8, arg9, h9, M, kl, 0#32⟩) fun _ => k
  | 5 => .op (.call (7 : (Λ₀ F).Label) ⟨arg8, h8, arg9, h9, M, kl, 0#32⟩) fun _ => k
  | 6 => .op (.call (8 : (Λ₀ F).Label) ⟨arg8, h8, arg9, h9, M, kl, 0#32⟩) fun _ => k
  | 7 => .op (.call (9 : (Λ₀ F).Label) ⟨arg8, h8, arg9, h9, M, kl, 0#32⟩) fun _ => k
  | 8 => .op (.call (10 : (Λ₀ F).Label) ⟨arg8, h8, arg9, h9, M, kl, 0#32⟩) fun _ => k
  | 9 => .op (.call (11 : (Λ₀ F).Label) ⟨arg8, h8, arg9, h9, M, kl, 0#32⟩) fun _ => k
  | 10 => .op (.call (12 : (Λ₀ F).Label) ⟨arg8, h8, arg9, h9, M, kl, 0#32⟩) fun _ => k
  | 11 => .op (.call (13 : (Λ₀ F).Label) ⟨arg8, h8, arg9, h9, M, kl, 0#32⟩) fun _ => k
  | 12 => .op (.call (14 : (Λ₀ F).Label) ⟨arg8, h8, arg9, h9, M, kl, 0#32⟩) fun _ => k
  | 13 => .op (.call (15 : (Λ₀ F).Label) ⟨arg8, h8, arg9, h9, M, kl, 0#32⟩) fun _ => k
  | 14 => .op (.call (16 : (Λ₀ F).Label) ⟨arg8, h8, arg9, h9, M, kl, 0#32⟩) fun _ => k
  | 15 => .op (.call (17 : (Λ₀ F).Label) ⟨arg8, h8, arg9, h9, M, kl, 0#32⟩) fun _ => k
  | 16 => .op (.call (18 : (Λ₀ F).Label) ⟨arg8, h8, arg9, h9, M, kl, 0#32⟩) fun _ => k
  | 17 => .op (.call (19 : (Λ₀ F).Label) ⟨arg8, h8, arg9, h9, M, kl, 0#32⟩) fun _ => k
  | 18 => .op (.call (20 : (Λ₀ F).Label) ⟨arg8, h8, arg9, h9, M, kl, 0#32⟩) fun _ => k
  | 19 => .op (.call (21 : (Λ₀ F).Label) ⟨arg8, h8, arg9, h9, M, kl, 0#32⟩) fun _ => k
  | 20 => .op (.call (22 : (Λ₀ F).Label) ⟨arg8, h8, arg9, h9, M, kl, 0#32⟩) fun _ => k
  | 21 => .op (.call (23 : (Λ₀ F).Label) ⟨arg8, h8, arg9, h9, M, kl, 0#32⟩) fun _ => k
  | 22 => .op (.call (24 : (Λ₀ F).Label) ⟨arg8, h8, arg9, h9, M, kl, 0#32⟩) fun _ => k
  | 23 => .op (.call (25 : (Λ₀ F).Label) ⟨arg8, h8, arg9, h9, M, kl, 0#32⟩) fun _ => k
  | 24 => .op (.call (26 : (Λ₀ F).Label) ⟨arg8, h8, arg9, h9, M, kl, 0#32⟩) fun _ => k
  | 25 => .op (.call (27 : (Λ₀ F).Label) ⟨arg8, h8, arg9, h9, M, kl, 0#32⟩) fun _ => k
  | 26 => .op (.call (28 : (Λ₀ F).Label) ⟨arg8, h8, arg9, h9, M, kl, 0#32⟩) fun _ => k
  | 27 => .op (.call (29 : (Λ₀ F).Label) ⟨arg8, h8, arg9, h9, M, kl, 0#32⟩) fun _ => k
  | 28 => .op (.call (30 : (Λ₀ F).Label) ⟨arg8, h8, arg9, h9, M, kl, 0#32⟩) fun _ => k
  | 29 => .op (.call (31 : (Λ₀ F).Label) ⟨arg8, h8, arg9, h9, M, kl, 0#32⟩) fun _ => k
  | 30 => .op (.call (32 : (Λ₀ F).Label) ⟨arg8, h8, arg9, h9, M, kl, 0#32⟩) fun _ => k
  | _ => .op (.call (33 : (Λ₀ F).Label) ⟨arg8, h8, arg9, h9, M, kl, 0#32⟩) fun _ => k

/-- A counted loop that the checker can run: its trips one after the other. -/
def forT {E : Type → Type} {σ : Type} {w : ℕ} (lb ub st : BitVec w) (_ : Scf.OK lb ub st) (init : σ) (body : Fin (Scf.trips lb ub st) → σ → Prog E σ) :
    Prog E σ :=
  Scf.forFrom body (List.finRange (Scf.trips lb ub st)) init

/-- The loop of the printed code is the loop used here. -/
theorem for_eq_forT {E : Type → Type} {σ : Type} {w : ℕ} : @Scf.for w E σ = @forT E σ w := by
  funext lb ub st h i b; exact Scf.for_eq lb ub st h i b

/-- Three continuations after one program are one continuation after it. -/
theorem bind_head {E : Type → Type} {α β γ δ : Type} (p : Prog E α) (f : α → Prog E β) (g : β → Prog E γ) (h : γ → Prog E δ) :
    ((p.bind f).bind g).bind h = p.bind fun x => ((f x).bind g).bind h := by
  change p >>= f >>= g >>= h = p >>= fun x => f x >>= g >>= h
  simp only [Prog.bind_assoc]

set_option maxRecDepth 100000 in
set_option maxHeartbeats 4000000 in
/-- The printed suppression kernel is the gather loop, then `rest`. -/
theorem body_eq (arg0 : Memref sig .tc .smem S4096 .i32) (harg0 : arg0.IsWhole) (arg1 : Memref sig .tc .vmem S20096x16 .f32) (harg1 : arg1.IsWhole) (arg2 : Memref sig .tc .vmem S4096x1 .f32) (harg2 : arg2.IsWhole) (arg3 : Memref sig .tc .vmem S4096x8 .f32) (harg3 : arg3.IsWhole) (arg4 : Memref sig .tc .vmem S4096x1 .f32) (harg4 : arg4.IsWhole) (arg5 : Memref sig .tc .vmem S4096x16 .f32) (harg5 : arg5.IsWhole) (arg6 : Memref sig .tc .vmem S4096x8 .f32) (harg6 : arg6.IsWhole) (arg7 : Memref sig .tc .vmem S8x4096 .f32) (harg7 : arg7.IsWhole) (arg8 : Memref sig .tc .vmem S1x128 .f32) (harg8 : arg8.IsWhole) (arg9 : Memref sig .tc .vmem S1x128 .f32) (harg9 : arg9.IsWhole) :
    cc0__nms_body (F := F) arg0 harg0 arg1 harg1 arg2 harg2 arg3 harg3 arg4 harg4 arg5 harg5 arg6 harg6 arg7 harg7 arg8 harg8 arg9 harg9
      = (gather arg0 arg1 arg5).bind fun _ => Cert.Nms.rest arg2 arg3 arg4 arg5 arg6 arg7 arg8 arg9 (callW arg8 harg8 arg9 harg9) := by
  delta cc0__nms_body k0_part196 k0_part197 k0_part73 k0_part120 k0_part122 k0_part124 k0_part128 k0_part132 k0_part134 k0_part137 k0_part141 k0_part145 k0_part147 k0_part150 k0_part153 k0_part158 k0_part160 k0_part163 k0_part166 k0_part171 k0_part173 k0_part175 k0_part179 k0_part184 k0_part185 k0_part188 k0_part192 gather
  delta Scf.Loop.for
  rw [show @Scf.for 32 (TpuEff nD τ sig (Elt F) (Λ₀ F) .tc) (FVec F S1x128 .f32) = forT from for_eq_forT]
  refine (bind_head _ _ _ _).trans ?_
  refine congrArg (Prog.bind _) (funext fun _ => ?_)
  chain_rfl

end Cert.KernelIdeal.Nms
-- ==== Proof.Exec.lean ====
/-
  Loads and stores of rectangles of a memref whose contents are known, and with them what the pieces of
  the suppression kernel do to its buffers.
-/
module

public import proofs.«01_k».proof.Proof.Body
public import Idealize.ShloMosaic.Rules.Step
public import Idealize.ShloMosaic.Lib.Memref
public import Idealize.ShloMosaic.Lib.MemrefSat
public import Idealize.ShloMosaic.Lib.Tactic
public import Idealize.ShloMosaic.Lib.Pointwise.Reshape

@[expose] public section

noncomputable section

namespace Cert.Nms

open Idealize.ShloMosaic
open Idealize.SL Idealize.SL.RA Idealize.SL.BI
open scoped Idealize.SL.BI
open Idealize.SL.BI.BIBase Idealize.SL.BI.Laws Idealize.SL.ProofMode Idealize.SL.Sem

/-- An array with a rectangle replaced. -/
def putR {s : Shape} {β : Type} (r : Rect s) (w : r.shape.Idx → β) (X : s.Idx → β) : s.Idx → β :=
  open Classical in fun y => if h : ∃ x, r.emb x = y then w h.choose else X y

/-- Inside the rectangle the new contents are read. -/
theorem putR_emb {s : Shape} {β : Type} (r : Rect s) (w : r.shape.Idx → β) (X : s.Idx → β) (x : r.shape.Idx) :
    putR r w X (r.emb x) = w x := by
  unfold putR
  have h : ∃ x', r.emb x' = r.emb x := ⟨x, rfl⟩
  rw [dif_pos h, r.emb.injective h.choose_spec]

/-- Outside it the old ones. -/
theorem putR_of_not {s : Shape} {β : Type} (r : Rect s) (w : r.shape.Idx → β) (X : s.Idx → β) (y : s.Idx) (h : ∀ x, r.emb x ≠ y) :
    putR r w X y = X y := by
  unfold putR
  rw [dif_neg fun ⟨x, hx⟩ => h x hx]

section
variable {nD : ℕ} {τ : Topo} {sig : RefSig} {Ix : Type} [DecidableEq Ix] {Name : Type} [DecidableEq Name] {U : Type} [URA U]
variable {Lvl : Type} [Preorder Lvl] {Λ : Labels} {F : FTy → Type} [FloatOps F]
local notation "𝕄" => MT nD τ sig Ix (Elt F) Name U Lvl

variable {defs : Defs nD τ sig (Elt F) Λ} (𝒱 : Variants) (c : Dev nD) (bd : Option 𝒱.V) (E : Set Name)
variable {s : Shape} {e : EltTy} {α : Type}

/-- A load of a rectangle of an owned memref. -/
theorem wp_ldR (Q : α → sProp 𝕄) {cs : CoreSpace} {m : Memref sig Kind.tc cs s e} {r : Rect s} {hl : m.view.LoadsAt r.toLoadRect}
    {k : (r.shape.Idx → Elt F e) → Prog (TpuEff nD τ sig (Elt F) Λ (Proc.tc : Proc τ)) α} {q : PosShare TreeShare} {X : s.Idx → Elt F e} :
    (owns c.tc m q X : sProp 𝕄)
      ⊢ iprop((owns c.tc m q X -∗ wp frame (wpE defs 𝒱 c.tc bd) E (k fun x => X (r.emb x)) Q)
        -∗ wp frame (wpE defs 𝒱 c.tc bd) E (.op (.load m r.toLoadRect hl) k) Q) := by
  unfold owns
  iintro ⟨%f, %hf, H⟩ Hk
  iapply (wp_load (defs := defs) 𝒱 c.tc bd E (Q := Q) (m := m) (r := r.toLoadRect) (hl := hl) (k := k) (q := q) (f := f) (S := m.view.set)
    (Finset.map_subset_map.mpr (Finset.subset_univ _))) $$ H
  iintro H
  rw [show m.view.readAt (Elt F) r.toLoadRect f = fun x => X (r.emb x) from by subst hf; rfl]
  iapply Hk
  iexists f
  isplitr
  · ipureintro; exact hf
  · iexact H

/-- A store into a rectangle of an owned memref. -/
theorem wp_stR (Q : α → sProp 𝕄) {cs : CoreSpace} {m : Memref sig Kind.tc cs s e} {r : Rect s} {w : r.shape.Idx → Elt F e}
    {hx : (m.access r).Stores Finset.univ} {hm : Finset.univ = Finset.univ ∨ ∀ a, r.stride a = 1}
    {k : PUnit → Prog (TpuEff nD τ sig (Elt F) Λ (Proc.tc : Proc τ)) α} {X : s.Idx → Elt F e} :
    (owns c.tc m fullShare X : sProp 𝕄)
      ⊢ iprop((owns c.tc m fullShare (putR r w X) -∗ wp frame (wpE defs 𝒱 c.tc bd) E (k ⟨⟩) Q)
        -∗ wp frame (wpE defs 𝒱 c.tc bd) E (.op (.store m r w Finset.univ hx hm) k) Q) := by
  unfold owns
  iintro ⟨%f, %hf, H⟩ Hk
  iapply (wp_store (defs := defs) 𝒱 c.tc bd E (Q := Q) (m := m) (r := r) (hx := hx) (hm := hm) (w := w) (Mk := Finset.univ) (k := k) (f := f) (S := m.view.set)
    (by rw [View.setOn_univ]; exact m.view.set_slice_subset r)) $$ H
  iintro H
  iapply Hk
  iexists ((m.access r).write (Elt F) f w Finset.univ)
  isplitr
  · ipureintro
    funext y
    by_cases h : ∃ x, r.emb x = y
    · obtain ⟨x, rfl⟩ := h
      rw [putR_emb]
      exact View.read_slice_write_emb r f w (Finset.mem_univ x)
    · rw [putR_of_not _ _ _ _ fun x hx => h ⟨x, hx⟩, ← hf]
      refine View.read_slice_write_of_not_mem r f w Finset.univ fun hm => h ?_
      obtain ⟨x, -, hx⟩ := Finset.mem_map.mp hm
      exact ⟨x, hx⟩
  · iexact H

variable {n m : ℕ}

/-- What the rectangle of `p` by `q` elements at `(i, j)` holds. -/
def rd {β : Type} (X : (Sh n m).Idx → β) (p q i j : ℕ) (h : i + p ≤ n ∧ j + q ≤ m) : (Sh p q).Idx → β := fun x => X ((rc p q i j h).emb x)

/-- The load of the program pieces. -/
theorem wp_ld (Q : α → sProp 𝕄) (a : Memref sig Kind.tc .vmem (Sh n m) .f32) (p q i j : ℕ) (h : i + p ≤ n ∧ j + q ≤ m) (hp : 0 < p ∧ 0 < q)
    (k : FVec F (Sh p q) .f32 → Prog (TpuEff nD τ sig (Elt F) Λ (Proc.tc : Proc τ)) α) (sh : PosShare TreeShare) (X : (Sh n m).Idx → F .f32) :
    (owns c.tc a sh X : sProp 𝕄)
      ⊢ iprop((owns c.tc a sh X -∗ wp frame (wpE defs 𝒱 c.tc bd) E (k (rd X p q i j h)) Q)
        -∗ wp frame (wpE defs 𝒱 c.tc bd) E (ld a p q i j h hp k) Q) :=
  wp_ldR (defs := defs) 𝒱 c bd E Q (m := a) (r := rc p q i j h) (k := k) (q := sh) (X := X)

/-- The store of the program pieces. -/
theorem wp_st (Q : α → sProp 𝕄) (a : Memref sig Kind.tc .vmem (Sh n m) .f32) (p q i j : ℕ) (h : i + p ≤ n ∧ j + q ≤ m) (hp : 0 < p ∧ 0 < q)
    (v : FVec F (Sh p q) .f32) (k : Prog (TpuEff nD τ sig (Elt F) Λ (Proc.tc : Proc τ)) α) (X : (Sh n m).Idx → F .f32) :
    (owns c.tc a fullShare X : sProp 𝕄)
      ⊢ iprop((owns c.tc a fullShare (putR (rc p q i j h) v X) -∗ wp frame (wpE defs 𝒱 c.tc bd) E k Q)
        -∗ wp frame (wpE defs 𝒱 c.tc bd) E (st a p q i j h hp v k) Q) := by
  unfold st
  iintro H Hk
  iapply (wp_ld 𝒱 c bd E Q a p q i j h hp _ fullShare X) $$ H
  iintro H
  iapply (wp_stR (defs := defs) 𝒱 c bd E (Q := Q) (m := a) (r := rc p q i j h) (w := v)) $$ H
  iexact Hk

/-- Where a place of a rectangle lies. -/
theorem rc_emb (p q i j : ℕ) (h : i + p ≤ n ∧ j + q ≤ m) (x : (Sh p q).Idx) (a : Fin 2) :
    ((rc p q i j h).emb x a).val = (![i, j] : Fin 2 → ℕ) a + (x a).val := by
  rw [Rect.emb_apply]
  exact congrArg (_ + ·) (Nat.one_mul _)

/-- A rectangle that is everything reads everything. -/
theorem rd_full {β : Type} (X : (Sh n m).Idx → β) (h : 0 + n ≤ n ∧ 0 + m ≤ m) : rd X n m 0 0 h = X := by
  funext x
  refine congrArg X ?_
  funext a
  refine Fin.ext ?_
  rw [rc_emb]
  match a with
  | 0 => exact Nat.zero_add _
  | 1 => exact Nat.zero_add _

/-- A rectangle that is everything replaces everything. -/
theorem putR_full {β : Type} (w X : (Sh n m).Idx → β) (h : 0 + n ≤ n ∧ 0 + m ≤ m) : putR (rc n m 0 0 h) w X = w := by
  rw [← rd_full (putR (rc n m 0 0 h) w X) h]
  funext x
  exact putR_emb (rc n m 0 0 h) w X x

/-! ## What the pieces compute -/

/-- The suppressions after `n` earlier blocks from the `a`-th on. -/
def supF (G : FVec F (Sh 4096 8) .f32) (c0 c1 c2 c3 c4 : FVec F (Sh 1 128) .f32) : (n a : ℕ) → a + n ≤ 32 → FVec F (Sh 1 128) .f32 → FVec F (Sh 1 128) .f32
  | 0, _, _, sup => sup
  | n + 1, a, h, sup => supF G c0 c1 c2 c3 c4 n (a + 1) (by omega) (aStep (rd G 128 8 (128 * a) 0 (by omega)) c0 c1 c2 c3 c4 sup)

/-- The fixed-point iteration: `n` more sweeps at most, from the iterate `x.1` and the one before it `x.2`. -/
def runF (M : FVec F (Sh 128 128) .f32) (kl : FVec F (Sh 1 128) .f32) : ℕ → FVec F (Sh 1 128) .f32 × FVec F (Sh 1 128) .f32 → FVec F (Sh 1 128) .f32 × FVec F (Sh 1 128) .f32
  | 0, x => x
  | n + 1, x => if differ x.1 x.2 = 1#1 then runF M kl n (sweep M kl x.1, x.1) else x

/-- The suppressions of block `b` by the earlier blocks. -/
def supB (b : ℕ) (hb : b < 32) (G : FVec F (Sh 4096 8) .f32) (W : FVec F (Sh 8 4096) .f32) : FVec F (Sh 1 128) .f32 :=
  supF G (rd W 1 128 0 (128 * b) (by omega)) (rd W 1 128 1 (128 * b) (by omega)) (rd W 1 128 2 (128 * b) (by omega)) (rd W 1 128 3 (128 * b) (by omega))
    (rd W 1 128 4 (128 * b) (by omega)) b 0 (by omega) (rd W 1 128 6 (128 * b) (by omega))

/-- The suppressions inside block `b`. -/
def matB (b : ℕ) (hb : b < 32) (G : FVec F (Sh 4096 8) .f32) (W : FVec F (Sh 8 4096) .f32) : FVec F (Sh 128 128) .f32 :=
  mMat (rd G 128 1 (128 * b) 0 (by omega)) (rd G 128 1 (128 * b) 1 (by omega)) (rd G 128 1 (128 * b) 2 (by omega)) (rd G 128 1 (128 * b) 3 (by omega))
    (rd G 128 1 (128 * b) 4 (by omega)) (rd W 1 128 0 (128 * b) (by omega)) (rd W 1 128 1 (128 * b) (by omega)) (rd W 1 128 2 (128 * b) (by omega))
    (rd W 1 128 3 (128 * b) (by omega)) (rd W 1 128 4 (128 * b) (by omega))

/-- The kept row of a block with suppressions `sup` from before and `M` inside. -/
def keepB (M : FVec F (Sh 128 128) .f32) (sup : FVec F (Sh 1 128) .f32) : FVec F (Sh 1 128) .f32 :=
  (runF M (kl0 sup) 128 (kl0 sup, pv0 sup)).1

/-- The boxes after block `b`: its kept column is written. -/
def blockF (b : ℕ) (hb : b < 32) (G : FVec F (Sh 4096 8) .f32) (W : FVec F (Sh 8 4096) .f32) : FVec F (Sh 4096 8) .f32 :=
  putR (rc 128 1 (128 * b) 5 (by omega)) (turn (keepB (matB b hb G W) (supB b hb G W))) G

/-- The boxes after `n` blocks from the `b`-th on. -/
def blocksF (W : FVec F (Sh 8 4096) .f32) : (n b : ℕ) → b + n ≤ 32 → FVec F (Sh 4096 8) .f32 → FVec F (Sh 4096 8) .f32
  | 0, _, _, G => G
  | n + 1, b, h, G => blocksF W n (b + 1) (by omega) (blockF b (by omega) G W)

/-- The transposed boxes after `n` blocks from the `b`-th on. -/
def turnsF (G : FVec F (Sh 4096 8) .f32) : (n b : ℕ) → b + n ≤ 32 → FVec F (Sh 8 4096) .f32 → FVec F (Sh 8 4096) .f32
  | 0, _, _, W => W
  | n + 1, b, h, W => turnsF G n (b + 1) (by omega) (putR (rc 8 128 0 (128 * b) (by omega)) (transpose (Sh 8 128) [1, 0] (rd G 128 8 (128 * b) 0 (by omega)) (by decide)) W)

/-- The kept flags of all the gathered candidates `g`; `W` is what the transposed buffer held before. -/
def keepOf (g : FVec F (Sh 4096 16) .f32) (W : FVec F (Sh 8 4096) .f32) : FVec F (Sh 4096 1) .f32 :=
  rd (blocksF (turnsF (geomOf g) 32 0 (by omega) W) 32 0 (by omega) (geomOf g)) 4096 1 0 5 (by omega)

/-! ## The pieces run -/

local notation "PG" => Prog (TpuEff nD τ sig (Elt F) Λ (Proc.tc : Proc τ))

/-- The loop over earlier blocks. -/
theorem wp_aLoop (Q : α → sProp 𝕄) (arg6 : Memref sig .tc .vmem (Sh 4096 8) .f32) (c0 c1 c2 c3 c4 : FVec F (Sh 1 128) .f32) (G : FVec F (Sh 4096 8) .f32)
    (n a : ℕ) (h : a + n ≤ 32) (sup : FVec F (Sh 1 128) .f32) (k : FVec F (Sh 1 128) .f32 → PG α) :
    (owns c.tc arg6 fullShare G : sProp 𝕄)
      ⊢ iprop((owns c.tc arg6 fullShare G -∗ wp frame (wpE defs 𝒱 c.tc bd) E (k (supF G c0 c1 c2 c3 c4 n a h sup)) Q)
        -∗ wp frame (wpE defs 𝒱 c.tc bd) E (aLoop arg6 c0 c1 c2 c3 c4 n a h sup k) Q) := by
  induction n generalizing a sup with
  | zero =>
    iintro H Hk
    iapply Hk $$ H
  | succ n ih =>
    iintro H Hk
    unfold aLoop
    iapply (wp_ld 𝒱 c bd E Q arg6 128 8 (128 * a) 0 _ _ _ fullShare G) $$ H
    iintro H
    iapply (ih (a + 1) _ _) $$ H
    iexact Hk

/-- The transposed copy. -/
theorem wp_turns (Q : α → sProp 𝕄) (arg6 : Memref sig .tc .vmem (Sh 4096 8) .f32) (arg7 : Memref sig .tc .vmem (Sh 8 4096) .f32)
    (G : FVec F (Sh 4096 8) .f32) (n b : ℕ) (h : b + n ≤ 32) (W : FVec F (Sh 8 4096) .f32) (k : PG α) :
    (iprop(owns c.tc arg6 fullShare G ∗ owns c.tc arg7 fullShare W) : sProp 𝕄)
      ⊢ iprop((owns c.tc arg6 fullShare G ∗ owns c.tc arg7 fullShare (turnsF G n b h W) -∗ wp frame (wpE defs 𝒱 c.tc bd) E k Q)
        -∗ wp frame (wpE defs 𝒱 c.tc bd) E (turns arg6 arg7 n b h k) Q) := by
  induction n generalizing b W with
  | zero =>
    iintro H Hk
    unfold turns turnsF
    iapply Hk $$ H
  | succ n ih =>
    iintro ⟨H, HW⟩ Hk
    unfold turns
    iapply (wp_ld 𝒱 c bd E Q arg6 128 8 (128 * b) 0 _ _ _ fullShare G) $$ H
    iintro H
    rw [shapeCast_id]
    iapply (wp_st 𝒱 c bd E Q arg7 8 128 0 (128 * b) _ _ _ _ W) $$ HW
    iintro HW
    iapply (ih (b + 1) _ _) $$ [H HW]
    · isplitl [H]
      · iexact H
      · iexact HW
    iexact Hk

/-- What the fixed-point call does: from the start row in one buffer and anything in the other, it leaves the iteration's end in the first. -/
def CallSpec (Q : α → sProp 𝕄) (defs : Defs nD τ sig (Elt F) Λ) (arg8 arg9 : Memref sig .tc .vmem (Sh 1 128) .f32)
    (callW : ℕ → FVec F (Sh 128 128) .f32 → FVec F (Sh 1 128) .f32 → PG α → PG α) : Prop :=
  ∀ (b : ℕ) (_ : b < 32) (M : FVec F (Sh 128 128) .f32) (kl P : FVec F (Sh 1 128) .f32) (k : PG α),
    (iprop(owns c.tc arg8 fullShare kl ∗ owns c.tc arg9 fullShare P) : sProp 𝕄)
      ⊢ iprop((∀ P', owns c.tc arg8 fullShare (runF M kl 128 (kl, P)).1 ∗ owns c.tc arg9 fullShare P' -∗ wp frame (wpE defs 𝒱 c.tc bd) E k Q)
        -∗ wp frame (wpE defs 𝒱 c.tc bd) E (callW b M kl k) Q)

/-- The four buffers the blocks work on. -/
def bufs (arg6 : Memref sig .tc .vmem (Sh 4096 8) .f32) (arg7 : Memref sig .tc .vmem (Sh 8 4096) .f32) (arg8 arg9 : Memref sig .tc .vmem (Sh 1 128) .f32)
    (G : FVec F (Sh 4096 8) .f32) (W : FVec F (Sh 8 4096) .f32) : sProp 𝕄 :=
  iprop(owns c.tc arg6 fullShare G ∗ owns c.tc arg7 fullShare W ∗ (∃ A, owns c.tc arg8 fullShare A) ∗ (∃ P, owns c.tc arg9 fullShare P))

/-- One block. -/
theorem wp_block (Q : α → sProp 𝕄) (arg6 : Memref sig .tc .vmem (Sh 4096 8) .f32) (arg7 : Memref sig .tc .vmem (Sh 8 4096) .f32)
    (arg8 arg9 : Memref sig .tc .vmem (Sh 1 128) .f32) (callW : ℕ → FVec F (Sh 128 128) .f32 → FVec F (Sh 1 128) .f32 → PG α → PG α)
    (hW : CallSpec 𝒱 c bd E Q defs arg8 arg9 callW)
    (b : ℕ) (h : b < 32) (G : FVec F (Sh 4096 8) .f32) (W : FVec F (Sh 8 4096) .f32) (k : PG α) :
    (bufs c arg6 arg7 arg8 arg9 G W : sProp 𝕄)
      ⊢ iprop((bufs c arg6 arg7 arg8 arg9 (blockF b h G W) W -∗ wp frame (wpE defs 𝒱 c.tc bd) E k Q)
        -∗ wp frame (wpE defs 𝒱 c.tc bd) E (block arg6 arg7 arg8 arg9 callW b h k) Q) := by
  unfold bufs
  iintro ⟨HG, HW, ⟨%A, HA⟩, ⟨%P, HP⟩⟩ Hk
  unfold block
  iapply (wp_ld 𝒱 c bd E Q arg7 1 128 0 (128 * b) _ _ _ fullShare W) $$ HW
  iintro HW
  iapply (wp_ld 𝒱 c bd E Q arg7 1 128 1 (128 * b) _ _ _ fullShare W) $$ HW
  iintro HW
  iapply (wp_ld 𝒱 c bd E Q arg7 1 128 2 (128 * b) _ _ _ fullShare W) $$ HW
  iintro HW
  iapply (wp_ld 𝒱 c bd E Q arg7 1 128 3 (128 * b) _ _ _ fullShare W) $$ HW
  iintro HW
  iapply (wp_ld 𝒱 c bd E Q arg7 1 128 4 (128 * b) _ _ _ fullShare W) $$ HW
  iintro HW
  iapply (wp_ld 𝒱 c bd E Q arg7 1 128 6 (128 * b) _ _ _ fullShare W) $$ HW
  iintro HW
  iapply (wp_aLoop 𝒱 c bd E Q arg6 _ _ _ _ _ G b 0 _ _ _) $$ HG
  iintro HG
  iapply (wp_ld 𝒱 c bd E Q arg6 128 1 (128 * b) 0 _ _ _ fullShare G) $$ HG
  iintro HG
  iapply (wp_ld 𝒱 c bd E Q arg6 128 1 (128 * b) 1 _ _ _ fullShare G) $$ HG
  iintro HG
  iapply (wp_ld 𝒱 c bd E Q arg6 128 1 (128 * b) 2 _ _ _ fullShare G) $$ HG
  iintro HG
  iapply (wp_ld 𝒱 c bd E Q arg6 128 1 (128 * b) 3 _ _ _ fullShare G) $$ HG
  iintro HG
  iapply (wp_ld 𝒱 c bd E Q arg6 128 1 (128 * b) 4 _ _ _ fullShare G) $$ HG
  iintro HG
  rw [shapeCast_id, shapeCast_id]
  iapply (wp_st 𝒱 c bd E Q arg8 1 128 0 0 _ _ _ _ A) $$ HA
  iintro HA
  iapply (wp_st 𝒱 c bd E Q arg9 1 128 0 0 _ _ _ _ P) $$ HP
  iintro HP
  rw [putR_full, putR_full]
  iapply (hW b h _ _ _ _) $$ [HA HP]
  · isplitl [HA]
    · iexact HA
    · iexact HP
  iintro %P' ⟨HA, HP⟩
  iapply (wp_ld 𝒱 c bd E Q arg8 1 128 0 0 _ _ _ fullShare _) $$ HA
  iintro HA
  rw [shapeCast_id, rd_full]
  iapply (wp_st 𝒱 c bd E Q arg6 128 1 (128 * b) 5 _ _ _ _ G) $$ HG
  iintro HG
  iapply Hk
  isplitl [HG]
  · iexact HG
  isplitl [HW]
  · iexact HW
  isplitl [HA]
  · iexists _; iexact HA
  · iexists _; iexact HP

/-- All the blocks. -/
theorem wp_blocks (Q : α → sProp 𝕄) (arg6 : Memref sig .tc .vmem (Sh 4096 8) .f32) (arg7 : Memref sig .tc .vmem (Sh 8 4096) .f32)
    (arg8 arg9 : Memref sig .tc .vmem (Sh 1 128) .f32) (callW : ℕ → FVec F (Sh 128 128) .f32 → FVec F (Sh 1 128) .f32 → PG α → PG α)
    (hW : CallSpec 𝒱 c bd E Q defs arg8 arg9 callW)
    (n b : ℕ) (h : b + n ≤ 32) (G : FVec F (Sh 4096 8) .f32) (W : FVec F (Sh 8 4096) .f32) (k : PG α) :
    (bufs c arg6 arg7 arg8 arg9 G W : sProp 𝕄)
      ⊢ iprop((bufs c arg6 arg7 arg8 arg9 (blocksF W n b h G) W -∗ wp frame (wpE defs 𝒱 c.tc bd) E k Q)
        -∗ wp frame (wpE defs 𝒱 c.tc bd) E (blocks arg6 arg7 arg8 arg9 callW n b h k) Q) := by
  induction n generalizing b G with
  | zero =>
    iintro H Hk
    unfold blocks blocksF
    iapply Hk $$ H
  | succ n ih =>
    iintro H Hk
    unfold blocks
    iapply (wp_block 𝒱 c bd E Q arg6 arg7 arg8 arg9 callW hW b _ G W _) $$ H
    iintro H
    iapply (ih (b + 1) _ _) $$ H
    iexact Hk

/-- Everything after the gather loop: the proposals and the masked scores are left in the outputs. -/
theorem wp_rest (Q : PUnit → sProp 𝕄) (arg2 : Memref sig .tc .vmem (Sh 4096 1) .f32) (arg3 : Memref sig .tc .vmem (Sh 4096 8) .f32)
    (arg4 : Memref sig .tc .vmem (Sh 4096 1) .f32) (arg5 : Memref sig .tc .vmem (Sh 4096 16) .f32)
    (arg6 : Memref sig .tc .vmem (Sh 4096 8) .f32) (arg7 : Memref sig .tc .vmem (Sh 8 4096) .f32)
    (arg8 arg9 : Memref sig .tc .vmem (Sh 1 128) .f32) (callW : ℕ → FVec F (Sh 128 128) .f32 → FVec F (Sh 1 128) .f32 → PG PUnit → PG PUnit)
    (hW : CallSpec 𝒱 c bd E Q defs arg8 arg9 callW)
    (sc : FVec F (Sh 4096 1) .f32) (O : FVec F (Sh 4096 8) .f32) (O' : FVec F (Sh 4096 1) .f32) (g : FVec F (Sh 4096 16) .f32)
    (G : FVec F (Sh 4096 8) .f32) (W : FVec F (Sh 8 4096) .f32) :
    (iprop(owns c.tc arg2 fullShare sc ∗ owns c.tc arg3 fullShare O ∗ owns c.tc arg4 fullShare O' ∗ owns c.tc arg5 fullShare g ∗ bufs c arg6 arg7 arg8 arg9 G W) : sProp 𝕄)
      ⊢ iprop((∀ G' W', owns c.tc arg2 fullShare sc ∗ owns c.tc arg3 fullShare (propOf g) ∗ owns c.tc arg4 fullShare (maskOf (keepOf g W) sc)
            ∗ owns c.tc arg5 fullShare g ∗ bufs c arg6 arg7 arg8 arg9 G' W' -∗ wp frame (wpE defs 𝒱 c.tc bd) E (.ret ⟨⟩) Q)
        -∗ wp frame (wpE defs 𝒱 c.tc bd) E (rest arg2 arg3 arg4 arg5 arg6 arg7 arg8 arg9 callW) Q) := by
  iintro ⟨Hs, HO, HO', Hg, HB⟩ Hk
  unfold rest
  iapply (wp_ld 𝒱 c bd E Q arg5 4096 16 0 0 _ _ _ fullShare g) $$ Hg
  iintro Hg
  rw [rd_full]
  iapply (wp_st 𝒱 c bd E Q arg3 4096 8 0 0 _ _ _ _ O) $$ HO
  iintro HO
  rw [putR_full]
  unfold bufs
  icases HB with ⟨HG, HW, HA, HP⟩
  rw [shapeCast_id]
  iapply (wp_st 𝒱 c bd E Q arg6 4096 8 0 0 _ _ _ _ G) $$ HG
  iintro HG
  rw [putR_full]
  iapply (wp_turns 𝒱 c bd E Q arg6 arg7 _ 32 0 _ W _) $$ [HG HW]
  · isplitl [HG]
    · iexact HG
    · iexact HW
  iintro ⟨HG, HW⟩
  iapply (wp_blocks 𝒱 c bd E Q arg6 arg7 arg8 arg9 callW hW 32 0 _ _ _ _) $$ [HG HW HA HP]
  · unfold bufs
    isplitl [HG]
    · iexact HG
    isplitl [HW]
    · iexact HW
    isplitl [HA]
    · iexact HA
    · iexact HP
  unfold bufs
  iintro ⟨HG, HW, HA, HP⟩
  iapply (wp_ld 𝒱 c bd E Q arg6 4096 1 0 5 _ _ _ fullShare _) $$ HG
  iintro HG
  iapply (wp_ld 𝒱 c bd E Q arg2 4096 1 0 0 _ _ _ fullShare _) $$ Hs
  iintro Hs
  rw [rd_full sc]
  iapply (wp_st 𝒱 c bd E Q arg4 4096 1 0 0 _ _ _ _ O') $$ HO'
  iintro HO'
  rw [putR_full]
  iapply Hk
  isplitl [Hs]
  · iexact Hs
  isplitl [HO]
  · iexact HO
  isplitl [HO']
  · iexact HO'
  isplitl [Hg]
  · iexact Hg
  isplitl [HG]
  · iexact HG
  isplitl [HW]
  · iexact HW
  isplitl [HA]
  · iexact HA
  · iexact HP

end

end Cert.Nms
-- ==== Proof.While.lean ====
/-
  The fixed-point loop of a block: a label that calls itself while its counter is below 128 and the last
  two iterates differ.  Its effect on the two rows it works on is `runF`.
-/
module

public import proofs.«01_k».proof.Proof.Exec
public import Idealize.ShloMosaic.Adequacy

@[expose] public section

noncomputable section

namespace Cert.Nms

open Idealize.ShloMosaic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {Name : Type} [DecidableEq Name] {U : Type} [URA U]
variable {Lvl : Type} [Preorder Lvl] {Λ : Labels} {F : FTy → Type} [FloatOps F]
local notation "𝕄" => MT nD τ sig Ix (Elt F) Name U Lvl
local notation "PG" => Prog (TpuEff nD τ sig (Elt F) Λ (Proc.tc : Proc τ))

/-- The body of the loop's label; `again` calls the label. -/
def whileBody (arg8 arg9 : Memref sig .tc .vmem (Sh 1 128) .f32) (M : FVec F (Sh 128 128) .f32) (kl : FVec F (Sh 1 128) .f32)
    {R : Type} (ret : BitVec 32 → R) (again : BitVec 32 → PG R) (t : BitVec 32) : PG R :=
  ld arg8 1 128 0 0 (by omega) (by decide) fun a =>
  ld arg9 1 128 0 0 (by omega) (by decide) fun p =>
  if Scalar.andi (Scalar.cmpi .slt t 128#32) (differ a p) = 1#1 then
    ld arg8 1 128 0 0 (by omega) (by decide) fun a =>
    st arg9 1 128 0 0 (by omega) (by decide) (shapeCast (Sh 1 128) a (by decide)) <|
    st arg8 1 128 0 0 (by omega) (by decide) (shapeCast (Sh 1 128) (sweep M kl a) (by decide)) <|
    again (Scalar.addi t 1#32)
  else .ret (ret t)

/-- The loop from counter `128 - n` on. -/
theorem wp_while {defs : Defs nD τ sig (Elt F) Λ} (c : Dev nD) (E : Set Name)
    (arg8 arg9 : Memref sig .tc .vmem (Sh 1 128) .f32) (M : FVec F (Sh 128 128) .f32) (kl : FVec F (Sh 1 128) .f32)
    {R : Type} (ret : BitVec 32 → R) (again : BitVec 32 → PG R)
    (hcall : ∀ (v : ℕ) (bd : Option ℕ) (_ : ∀ u ∈ bd, v < u) (t : BitVec 32) (Q : R → sProp 𝕄),
      wp frame (wpE defs Variants.nat c.tc (some v)) E (whileBody arg8 arg9 M kl ret again t) Q
        ⊢ wp frame (wpE defs Variants.nat c.tc bd) E (again t) Q)
    (Q : R → sProp 𝕄) (n : ℕ) (t : BitVec 32) (ht : t.toNat + n = 128) (A P : FVec F (Sh 1 128) .f32) :
    (iprop(owns c.tc arg8 fullShare A ∗ owns c.tc arg9 fullShare P) : sProp 𝕄)
      ⊢ iprop((∀ r P', owns c.tc arg8 fullShare (runF M kl n (A, P)).1 ∗ owns c.tc arg9 fullShare P' -∗ Q r)
        -∗ wp frame (wpE defs Variants.nat c.tc (some (n : ℕ))) E (whileBody arg8 arg9 M kl ret again t) Q) := by
  induction n generalizing t A P with
  | zero =>
    have ht' : t = 128#32 := BitVec.eq_of_toNat_eq ht
    subst ht'
    iintro ⟨HA, HP⟩ Hk
    unfold whileBody
    iapply (wp_ld Variants.nat c (some (0 : ℕ)) E Q arg8 1 128 0 0 _ _ _ fullShare A) $$ HA
    iintro HA
    iapply (wp_ld Variants.nat c (some (0 : ℕ)) E Q arg9 1 128 0 0 _ _ _ fullShare P) $$ HP
    iintro HP
    rw [rd_full, rd_full, if_neg (by
      rw [show Scalar.cmpi .slt 128#32 128#32 = 0#1 from by decide, show ∀ x : BitVec 1, Scalar.andi 0#1 x = 0#1 from by decide]
      decide)]
    rw [wp_ret]
    imodintro
    unfold runF
    iapply Hk
    isplitl [HA]
    · iexact HA
    · iexact HP
  | succ n ih =>
    have hslt : Scalar.cmpi .slt t 128#32 = 1#1 := by
      have h1 : t.toNat < 128 := by omega
      show BitVec.ofBool (BitVec.slt t 128#32) = 1#1
      rw [show BitVec.slt t 128#32 = true from by
        rw [BitVec.slt_iff_toInt_lt, BitVec.toInt_eq_toNat_of_lt (by omega)]
        show (t.toNat : Int) < 128
        omega]
      rfl
    iintro ⟨HA, HP⟩ Hk
    unfold whileBody
    iapply (wp_ld Variants.nat c (some (n + 1 : ℕ)) E Q arg8 1 128 0 0 _ _ _ fullShare A) $$ HA
    iintro HA
    iapply (wp_ld Variants.nat c (some (n + 1 : ℕ)) E Q arg9 1 128 0 0 _ _ _ fullShare P) $$ HP
    iintro HP
    rw [rd_full, rd_full, hslt, show ∀ x : BitVec 1, Scalar.andi 1#1 x = x from by decide]
    unfold runF
    by_cases hd : differ A P = 1#1
    · rw [if_pos hd, if_pos hd]
      iapply (wp_ld Variants.nat c (some (n + 1 : ℕ)) E Q arg8 1 128 0 0 _ _ _ fullShare A) $$ HA
      iintro HA
      rw [rd_full, shapeCast_id, shapeCast_id]
      iapply (wp_st Variants.nat c (some (n + 1 : ℕ)) E Q arg9 1 128 0 0 _ _ _ _ P) $$ HP
      iintro HP
      iapply (wp_st Variants.nat c (some (n + 1 : ℕ)) E Q arg8 1 128 0 0 _ _ _ _ A) $$ HA
      iintro HA
      rw [putR_full, putR_full]
      iapply (hcall n (some (n + 1 : ℕ)) (fun u hu => by cases hu; exact Nat.lt_succ_self n) _ Q)
      iapply (ih (Scalar.addi t 1#32) (by
        show (t + 1#32).toNat + n = 128
        rw [BitVec.toNat_add]
        show (t.toNat + 1) % 2 ^ 32 + n = 128
        omega) _ _) $$ [HA HP]
      · isplitl [HA]
        · iexact HA
        · iexact HP
      iexact Hk
    · rw [if_neg hd, if_neg hd, wp_ret]
      imodintro
      iapply Hk
      isplitl [HA]
      · iexact HA
      · iexact HP

/-- The call of a label whose body is the loop's, from counter zero. -/
theorem wp_callW {defs : Defs nD τ sig (Elt F) Λ} (c : Dev nD) (bd : Option ℕ) (hbd : bd = none) (E : Set Name)
    (arg8 arg9 : Memref sig .tc .vmem (Sh 1 128) .f32) (M : FVec F (Sh 128 128) .f32) (kl : FVec F (Sh 1 128) .f32)
    (ℓ : Λ.Label) (mk : BitVec 32 → Λ.Args ℓ) (ret : BitVec 32 → Λ.Result ℓ)
    (hbody : ∀ t, defs Proc.tc ℓ (mk t) = whileBody arg8 arg9 M kl ret (fun t => .op (.call ℓ (mk t)) .ret) t)
    {α : Type} (Q : α → sProp 𝕄) (A P : FVec F (Sh 1 128) .f32) (k : PG α) :
    (iprop(owns c.tc arg8 fullShare A ∗ owns c.tc arg9 fullShare P) : sProp 𝕄)
      ⊢ iprop((∀ P', owns c.tc arg8 fullShare (runF M kl 128 (A, P)).1 ∗ owns c.tc arg9 fullShare P' -∗ wp frame (wpE defs Variants.nat c.tc bd) E k Q)
        -∗ wp frame (wpE defs Variants.nat c.tc bd) E (.op (.call ℓ (mk 0#32)) fun _ => k) Q) := by
  subst hbd
  iintro H Hk
  iapply (wp_call (defs := defs) Variants.nat c.tc none E (Q := Q) (ℓ := ℓ) (a := mk 0#32) (k := fun _ => k) (128 : ℕ) (fun u hu => by cases hu))
  rw [show defs c.tc.2 ℓ (mk 0#32) = _ from hbody 0#32]
  iapply (wp_while (defs := defs) c E arg8 arg9 M kl ret _ (fun v bd hv t Q => by
    refine BIBase.Entails.trans ?_ (wp_call (defs := defs) Variants.nat c.tc bd E (Q := Q) (ℓ := ℓ) (a := mk t) (k := .ret) (v : ℕ) hv)
    rw [show defs c.tc.2 ℓ (mk t) = _ from hbody t]
    refine wp_mono _ _ _ fun x => ?_
    rw [wp_ret]
    iintro H
    imodintro
    iexact H) _ 128 0#32 rfl A P) $$ H
  iintro %r %P' H
  iapply Hk $$ H

end Cert.Nms
-- ==== Proof.Rows.lean ====
/-
  A counted loop that copies, into row `k` of an array, the row of a table that the `k`-th of a list of
  words names.
-/
module

public import proofs.«01_k».proof.Proof.Exec

@[expose] public section

noncomputable section

namespace Cert.Nms

open Idealize.ShloMosaic
open Idealize.SL Idealize.SL.RA Idealize.SL.BI
open scoped Idealize.SL.BI
open Idealize.SL.BI.BIBase Idealize.SL.BI.Laws Idealize.SL.ProofMode Idealize.SL.Sem

/-- The place `(r, c)`. -/
abbrev at2 {n m : ℕ} (r : Fin n) (c : Fin m) : (Sh n m).Idx := Shape.pair (d := ![n, m]) r c

/-- The place `r` of a list. -/
def at1 {n : ℕ} (r : Fin n) : (Sv n).Idx := fun a => ⟨r.val, by match a with | 0 => exact r.isLt⟩

/-- Places of a list with one number are one place. -/
theorem at1_ext {n : ℕ} (x y : (Sv n).Idx) (h : (x 0).val = (y 0).val) : x = y := by
  funext a; match a with | 0 => exact Fin.ext h

/-- Places of a table with the same two numbers are one place. -/
theorem at2_ext {n m : ℕ} (x y : (Sh n m).Idx) (h0 : (x 0).val = (y 0).val) (h1 : (x 1).val = (y 1).val) : x = y := by
  funext a; match a with
  | 0 => exact Fin.ext h0
  | 1 => exact Fin.ext h1

variable {n N D : ℕ} [NeZero N] {β : Type}

/-- The rows of the table `T` that the words `I` name, in order. -/
def gatherOf (I : (Sv n).Idx → BitVec 32) (T : (Sh N D).Idx → β) : (Sh n D).Idx → β :=
  fun y => T (at2 (Fin.ofNat N (I (at1 (y 0))).toNat) (y 1))

/-- The first `k` rows gathered, the others as they were. -/
def rowsTo (I : (Sv n).Idx → BitVec 32) (T : (Sh N D).Idx → β) (X : (Sh n D).Idx → β) (k : ℕ) : (Sh n D).Idx → β :=
  fun y => if (y 0).val < k then gatherOf I T y else X y

/-- With no row copied, the buffer is as it was. -/
theorem rowsTo_zero (I : (Sv n).Idx → BitVec 32) (T : (Sh N D).Idx → β) (X : (Sh n D).Idx → β) : rowsTo I T X 0 = X := by
  funext y; exact if_neg (Nat.not_lt_zero _)

/-- With all rows copied, the buffer is the gathered table. -/
theorem rowsTo_all (I : (Sv n).Idx → BitVec 32) (T : (Sh N D).Idx → β) (X : (Sh n D).Idx → β) : rowsTo I T X n = gatherOf I T := by
  funext y; exact if_pos (y 0).isLt

/-- One more row. -/
theorem putR_rowsTo (I : (Sv n).Idx → BitVec 32) (T : (Sh N D).Idx → β) (X : (Sh n D).Idx → β) (k : Fin n) (h : k.val + 1 ≤ n ∧ 0 + D ≤ D)
    (h' : (I (at1 k)).toNat + 1 ≤ N ∧ 0 + D ≤ D) :
    putR (rc 1 D k.val 0 h) (rd T 1 D (I (at1 k)).toNat 0 h') (rowsTo I T X k.val) = rowsTo I T X (k.val + 1) := by
  funext y
  by_cases hy : (y 0).val = k.val
  · have e : y = (rc 1 D k.val 0 h).emb (at2 0 (y 1)) := at2_ext _ _ (by rw [rc_emb]; exact hy) (by rw [rc_emb]; exact (Nat.zero_add _).symm)
    have e0 : y 0 = k := Fin.ext hy
    rw [show putR (rc 1 D k.val 0 h) (rd T 1 D (I (at1 k)).toNat 0 h') (rowsTo I T X k.val) y
      = putR (rc 1 D k.val 0 h) (rd T 1 D (I (at1 k)).toNat 0 h') (rowsTo I T X k.val) ((rc 1 D k.val 0 h).emb (at2 0 (y 1))) from by rw [← e],
      show putR (rc 1 D k.val 0 h) (rd T 1 D (I (at1 k)).toNat 0 h') (rowsTo I T X k.val) ((rc 1 D k.val 0 h).emb (at2 0 (y 1)))
        = rd T 1 D (I (at1 k)).toNat 0 h' (at2 0 (y 1)) from putR_emb (rc 1 D k.val 0 h) _ _ _]
    unfold rowsTo gatherOf rd
    rw [if_pos (by omega), e0]
    refine congrArg T (at2_ext _ _ ?_ ?_)
    · rw [rc_emb]
      show (I (at1 k)).toNat + 0 = (I (at1 k)).toNat % N
      rw [Nat.mod_eq_of_lt (by omega)]
      rfl
    · rw [rc_emb]
      exact Nat.zero_add _
  · rw [putR_of_not _ _ _ _ fun x hx => hy (by
      rw [← hx, rc_emb]
      have := (x 0).isLt
      have : (x 0).val = 0 := by
        have h2 : (x 0).val < 1 := (x 0).isLt
        omega
      show k.val + (x 0).val = _
      omega)]
    unfold rowsTo
    by_cases hk : (y 0).val < k.val
    · rw [if_pos hk, if_pos (by omega)]
    · rw [if_neg hk, if_neg (by omega)]

/-- The number of a trip, read off the loop's counter. -/
theorem iv_nat (k : ℕ) (hk : k < 4096) : (Scf.iv 0#32 1#32 k).toNat = k := by
  rw [Scf.iv, BitVec.mul_one, BitVec.zero_add, BitVec.toNat_ofNat]
  exact Nat.mod_eq_of_lt (by omega)

section
variable {nD : ℕ} {τ : Topo} {sig : RefSig} {Ix : Type} [DecidableEq Ix] {Name : Type} [DecidableEq Name] {U : Type} [URA U]
variable {Lvl : Type} [Preorder Lvl] {Λ : Labels} {F : FTy → Type} [FloatOps F]
local notation "𝕄" => MT nD τ sig Ix (Elt F) Name U Lvl
local notation "PG" => Prog (TpuEff nD τ sig (Elt F) Λ (Proc.tc : Proc τ))

/-- One trip: read word `o1`, check that it names a row, load the row, store it at `o3`. -/
def rowStep (m0 : Memref sig .tc .smem (Sv n) .i32) (m1 : Memref sig .tc .vmem (Sh N D) .f32) (m2 : Memref sig .tc .vmem (Sh n D) .f32)
    (hD : 0 < D) (o1 : Fin 1 → ℕ) (h1 : ∀ a, o1 a + (Sv 1).size a ≤ (Sv n).size a) (o2 : BitVec 32 → Fin 2 → ℕ)
    (dec : ∀ w, Decidable (∀ a, o2 w a + (Sh 1 D).size a ≤ (Sh N D).size a)) (o3 : Fin 2 → ℕ) (h3 : ∀ a, o3 a + (Sh 1 D).size a ≤ (Sh n D).size a)
    (cv : FVec F (Sh 1 D) .f32 → FVec F (Sh 1 D) .f32) : PG PUnit :=
  (smemLoad m0 (Rect.unit (s := Sv n) o1 (Sv 1).size h1) rfl rfl).bind fun w =>
  .op (.assume (∀ a, o2 w a + (Sh 1 D).size a ≤ (Sh N D).size a) (dec w)) fun hw =>
  .op (TpuEff.load (Val := Elt F) (e := .f32) m1 (Rect.unit (s := Sh N D) (o2 w) (Sh 1 D).size hw.down).toLoadRect
    (View.loadsAt_vmem (pos2 (p := 1) (q := D) ⟨Nat.one_pos, hD⟩))) fun row =>
  .op (TpuEff.load (Val := Elt F) (e := .f32) m2 (Rect.unit (s := Sh n D) o3 (Sh 1 D).size h3).toLoadRect
    (View.loadsAt_vmem (pos2 (p := 1) (q := D) ⟨Nat.one_pos, hD⟩))) fun _ =>
  .op (TpuEff.store (Val := Elt F) (e := .f32) m2 (Rect.unit (s := Sh n D) o3 (Sh 1 D).size h3) (cv row) Finset.univ
    (View.stores_vmem_bits_univ (pos2 (p := 1) (q := D) ⟨Nat.one_pos, hD⟩) rfl) (.inl rfl)) fun _ => .ret ⟨⟩

variable {defs : Defs nD τ sig (Elt F) Λ} (𝒱 : Variants) (c : Dev nD) (bd : Option 𝒱.V) (E : Set Name)

/-- One trip fills one row. -/
theorem wp_rowStep (m0 : Memref sig .tc .smem (Sv n) .i32) (m1 : Memref sig .tc .vmem (Sh N D) .f32) (m2 : Memref sig .tc .vmem (Sh n D) .f32)
    (hD : 0 < D) (o1 : Fin 1 → ℕ) (h1 : ∀ a, o1 a + (Sv 1).size a ≤ (Sv n).size a) (o2 : BitVec 32 → Fin 2 → ℕ)
    (dec : ∀ w, Decidable (∀ a, o2 w a + (Sh 1 D).size a ≤ (Sh N D).size a)) (o3 : Fin 2 → ℕ) (h3 : ∀ a, o3 a + (Sh 1 D).size a ≤ (Sh n D).size a)
    (cv : FVec F (Sh 1 D) .f32 → FVec F (Sh 1 D) .f32) (hcv : ∀ x, cv x = x)
    (I : (Sv n).Idx → BitVec 32) (T : FVec F (Sh N D) .f32) (X : FVec F (Sh n D) .f32) (k : Fin n)
    (e1 : o1 = ![k.val]) (e2 : ∀ w, o2 w = ![w.toNat, 0]) (e3 : o3 = ![k.val, 0]) (hI : (I (at1 k)).toNat < N) :
    (iprop(owns c.tc m0 fullShare I ∗ owns c.tc m1 fullShare T ∗ owns c.tc m2 fullShare (rowsTo I T X k.val)) : sProp 𝕄)
      ⊢ wp frame (wpE defs 𝒱 c.tc bd) E (rowStep (F := F) m0 m1 m2 hD o1 h1 o2 dec o3 h3 cv : PG PUnit)
        (fun _ => iprop(owns c.tc m0 fullShare I ∗ owns c.tc m1 fullShare T ∗ owns c.tc m2 fullShare (rowsTo I T X (k.val + 1)))) := by
  obtain rfl : o2 = fun w => ![w.toNat, 0] := funext e2
  subst e1 e3
  have hch : ∀ a, (![(I (at1 k)).toNat, 0] : Fin 2 → ℕ) a + (Sh 1 D).size a ≤ (Sh N D).size a := by
    intro a; match a with
    | 0 => exact hI
    | 1 => exact (Nat.zero_add D).le
  iintro ⟨H0, H1, H2⟩
  unfold rowStep
  iapply (wp_ldR (defs := defs) 𝒱 c bd E _ (m := m0) (r := Rect.unit (s := Sv n) ![k.val] (Sv 1).size h1) (q := fullShare) (X := I)) $$ H0
  iintro H0
  rw [show (fun x => I ((Rect.unit (s := Sv n) ![k.val] (Sv 1).size h1).emb x)) = fun _ => I (at1 k) from funext fun x => congrArg I (at1_ext _ _ (by
    rw [Rect.emb_apply]
    have h2 : (x 0).val < 1 := (x 0).isLt
    show k.val + 1 * (x 0).val = k.val
    omega))]
  iapply (wp_assume (defs := defs) 𝒱 c.tc bd E hch)
  iapply (wp_ldR (defs := defs) 𝒱 c bd E _ (m := m1) (r := Rect.unit (s := Sh N D) ![(I (at1 k)).toNat, 0] (Sh 1 D).size hch) (q := fullShare) (X := T)) $$ H1
  iintro H1
  iapply (wp_ldR (defs := defs) 𝒱 c bd E _ (m := m2) (r := Rect.unit (s := Sh n D) ![k.val, 0] (Sh 1 D).size h3) (q := fullShare) (X := rowsTo I T X k.val)) $$ H2
  iintro H2
  rw [hcv]
  iapply (wp_stR (defs := defs) 𝒱 c bd E _ (m := m2) (r := Rect.unit (s := Sh n D) ![k.val, 0] (Sh 1 D).size h3) (X := rowsTo I T X k.val)) $$ H2
  iintro H2
  rw [wp_ret]
  imodintro
  isplitl [H0]
  · iexact H0
  isplitl [H1]
  · iexact H1
  rw [← putR_rowsTo I T X k ⟨k.isLt, (Nat.zero_add D).le⟩ ⟨hI, (Nat.zero_add D).le⟩]
  iexact H2

/-- The loop: every row is filled. -/
theorem wp_rows (lb ub stp : BitVec 32) (hok : Scf.OK lb ub stp) (hT : Scf.trips lb ub stp = n) (body : Fin (Scf.trips lb ub stp) → PUnit → PG PUnit)
    (m0 : Memref sig .tc .smem (Sv n) .i32) (m1 : Memref sig .tc .vmem (Sh N D) .f32) (m2 : Memref sig .tc .vmem (Sh n D) .f32)
    (hD : 0 < D) (o1 : Fin (Scf.trips lb ub stp) → Fin 1 → ℕ) (h1 : ∀ k a, o1 k a + (Sv 1).size a ≤ (Sv n).size a) (o2 : BitVec 32 → Fin 2 → ℕ)
    (dec : ∀ w, Decidable (∀ a, o2 w a + (Sh 1 D).size a ≤ (Sh N D).size a)) (o3 : Fin (Scf.trips lb ub stp) → Fin 2 → ℕ)
    (h3 : ∀ k a, o3 k a + (Sh 1 D).size a ≤ (Sh n D).size a)
    (cv : FVec F (Sh 1 D) .f32 → FVec F (Sh 1 D) .f32) (hcv : ∀ x, cv x = x)
    (hb : ∀ k u, body k u = rowStep (F := F) m0 m1 m2 hD (o1 k) (h1 k) o2 dec (o3 k) (h3 k) cv)
    (I : (Sv n).Idx → BitVec 32) (T : FVec F (Sh N D) .f32) (X : FVec F (Sh n D) .f32)
    (e1 : ∀ k, o1 k = ![k.val]) (e2 : ∀ w, o2 w = ![w.toNat, 0]) (e3 : ∀ k, o3 k = ![k.val, 0]) (hI : ∀ x, (I x).toNat < N)
    {Q : PUnit → sProp 𝕄} :
    (iprop((owns c.tc m0 fullShare I ∗ owns c.tc m1 fullShare T ∗ owns c.tc m2 fullShare X)
        ∗ (owns c.tc m0 fullShare I ∗ owns c.tc m1 fullShare T ∗ owns c.tc m2 fullShare (gatherOf I T) -∗ Q ⟨⟩)) : sProp 𝕄)
      ⊢ wp frame (wpE defs 𝒱 c.tc bd) E (Scf.for lb ub stp hok ⟨⟩ body) Q := by
  subst hT
  iintro ⟨H, HQ⟩
  iapply (Scf.wp_for frame (wpE defs 𝒱 c.tc bd) E lb ub stp hok ⟨⟩ body
    (fun k _ => iprop(owns c.tc m0 fullShare I ∗ owns c.tc m1 fullShare T ∗ owns c.tc m2 fullShare (rowsTo I T X k)))
    (fun k u => by
      rw [hb k u]
      exact wp_rowStep 𝒱 c bd E m0 m1 m2 hD (o1 k) (h1 k) o2 dec (o3 k) (h3 k) cv hcv I T X k (e1 k) e2 (e3 k) (hI _)))
  isplitl [H]
  · rw [rowsTo_zero]
    iexact H
  · iintro %u H
    rw [rowsTo_all]
    iapply HQ $$ H

end

end Cert.Nms
-- ==== Proof.Kern.lean ====
/-
  The two printed kernels run: the suppression kernel leaves the proposals and the masked scores, the
  selection kernel leaves the selected rows.
-/
module

public import proofs.«01_k».proof.Proof.BodyEq
public import proofs.«01_k».proof.Proof.While
public import proofs.«01_k».proof.Proof.Rows
public import Mathlib.Tactic.IntervalCases

@[expose] public section

noncomputable section

namespace Cert.KernelIdeal.Nms

open Idealize.ShloMosaic Cert.KernelIdeal Cert.Nms
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
variable {Ix : Type} [DecidableEq Ix] {Name : Type} [DecidableEq Name] {U : Type} [URA U] {Lvl : Type} [Preorder Lvl]
local notation "𝕄" => MT nD τ sig Ix (Elt F) Name U Lvl

open Facts₀ Facts

/-- The label of block `b`'s loop, its arguments at a counter, and its body. -/
theorem callW_label (arg8 : Memref sig .tc .vmem S1x128 .f32) (h8 : arg8.IsWhole) (arg9 : Memref sig .tc .vmem S1x128 .f32) (h9 : arg9.IsWhole)
    (b : ℕ) (hb : b < 32) (h : b + 2 < 34) (M : FVec F (Sh 128 128) .f32) (kl : FVec F (Sh 1 128) .f32) :
    ∃ (mk : BitVec 32 → (Λ₀ F).Args (⟨b + 2, h⟩ : Fin 34)) (ret : BitVec 32 → (Λ₀ F).Result (⟨b + 2, h⟩ : Fin 34)),
      (∀ t, defs₀ (F := F) Proc.tc (⟨b + 2, h⟩ : Fin 34) (mk t) = whileBody arg8 arg9 M kl ret (fun t => .op (.call (⟨b + 2, h⟩ : Fin 34) (mk t)) .ret) t)
        ∧ ∀ k, callW arg8 h8 arg9 h9 b M kl k = .op (.call (⟨b + 2, h⟩ : Fin 34) (mk 0#32)) fun _ => k := by
  interval_cases b <;> exact ⟨fun t => ⟨arg8, h8, arg9, h9, M, kl, t⟩, fun t => t, fun t => by chain_rfl, fun k => rfl⟩

/-- The call of any block's loop iterates. -/
theorem callW_spec (c : Dev nD) (E : Set Name) (Q : PUnit → sProp 𝕄) (arg8 : Memref sig .tc .vmem S1x128 .f32) (h8 : arg8.IsWhole)
    (arg9 : Memref sig .tc .vmem S1x128 .f32) (h9 : arg9.IsWhole) :
    CallSpec Variants.nat c none E Q defs₀ arg8 arg9 (callW (F := F) arg8 h8 arg9 h9) := by
  intro b hb M kl P k
  obtain ⟨mk, ret, hbody, hc⟩ := callW_label (F := F) arg8 h8 arg9 h9 b hb (by omega) M kl
  rw [hc]
  exact wp_callW (defs := defs₀) c none rfl E arg8 arg9 M kl _ mk ret hbody Q kl P k

/-- The gather loop gathers. -/
theorem wp_gather (c : Dev nD) (E : Set Name) (Q : PUnit → sProp 𝕄) (arg0 : Memref sig .tc .smem S4096 .i32) (arg1 : Memref sig .tc .vmem S20096x16 .f32)
    (arg5 : Memref sig .tc .vmem S4096x16 .f32) (I : (Sv 4096).Idx → BitVec 32) (T : FVec F (Sh 20096 16) .f32) (X : FVec F (Sh 4096 16) .f32)
    (hI : ∀ x, (I x).toNat < 20096) :
    (iprop((owns c.tc arg0 fullShare I ∗ owns c.tc arg1 fullShare T ∗ owns c.tc arg5 fullShare X)
        ∗ (owns c.tc arg0 fullShare I ∗ owns c.tc arg1 fullShare T ∗ owns c.tc arg5 fullShare (gatherOf I T) -∗ Q ⟨⟩)) : sProp 𝕄)
      ⊢ wp frame (wpE defs₀ Variants.nat c.tc none) E (gather (F := F) arg0 arg1 arg5) Q :=
  wp_rows (defs := defs₀) Variants.nat c none E _ _ _ k0_t1_ok (by decide) _ arg0 arg1 arg5 (by decide) k0_off1 k0_off1_inb k0_off2 k0_chk1.dec k0_off3 k0_off3_inb
    (fun v => shapeCast S1x16 (shapeCast S1x16 v shapeCasts_S1x16_S1x16) shapeCasts_S1x16_S1x16) (fun v => by rw [shapeCast_id, shapeCast_id]) (fun k u => by chain_rfl)
    I T X (fun k => congrArg (fun v => ![v]) (iv_nat k.val (k.isLt.trans_le (by decide)))) (fun w => rfl)
    (fun k => congrArg (fun v => ![v, 0]) (iv_nat k.val (k.isLt.trans_le (by decide)))) hI

/-- The suppression kernel, from the sixteen columns `T` of all boxes, the words `I` and the scores `sc`. -/
theorem wp_nms (c : Dev nD) (E : Set Name) (Q : PUnit → sProp 𝕄) (arg0 : Memref sig .tc .smem S4096 .i32) (harg0 : arg0.IsWhole) (arg1 : Memref sig .tc .vmem S20096x16 .f32) (harg1 : arg1.IsWhole) (arg2 : Memref sig .tc .vmem S4096x1 .f32) (harg2 : arg2.IsWhole)
    (arg3 : Memref sig .tc .vmem S4096x8 .f32) (harg3 : arg3.IsWhole) (arg4 : Memref sig .tc .vmem S4096x1 .f32) (harg4 : arg4.IsWhole) (arg5 : Memref sig .tc .vmem S4096x16 .f32) (harg5 : arg5.IsWhole)
    (arg6 : Memref sig .tc .vmem S4096x8 .f32) (harg6 : arg6.IsWhole) (arg7 : Memref sig .tc .vmem S8x4096 .f32) (harg7 : arg7.IsWhole) (arg8 : Memref sig .tc .vmem S1x128 .f32) (harg8 : arg8.IsWhole)
    (arg9 : Memref sig .tc .vmem S1x128 .f32) (harg9 : arg9.IsWhole)
    (I : (Sv 4096).Idx → BitVec 32) (T : FVec F (Sh 20096 16) .f32) (sc : FVec F (Sh 4096 1) .f32) (hI : ∀ x, (I x).toNat < 20096)
    (O : FVec F (Sh 4096 8) .f32) (O' : FVec F (Sh 4096 1) .f32) (g : FVec F (Sh 4096 16) .f32) (G : FVec F (Sh 4096 8) .f32) (W : FVec F (Sh 8 4096) .f32) :
    (iprop((owns c.tc arg0 fullShare I ∗ owns c.tc arg1 fullShare T ∗ owns c.tc arg5 fullShare g) ∗ owns c.tc arg2 fullShare sc ∗ owns c.tc arg3 fullShare O
        ∗ owns c.tc arg4 fullShare O' ∗ bufs c arg6 arg7 arg8 arg9 G W) : sProp 𝕄)
      ⊢ iprop((∀ G' W', owns c.tc arg0 fullShare I ∗ owns c.tc arg1 fullShare T ∗ owns c.tc arg2 fullShare sc ∗ owns c.tc arg3 fullShare (propOf (gatherOf I T))
            ∗ owns c.tc arg4 fullShare (maskOf (keepOf (gatherOf I T) W) sc) ∗ owns c.tc arg5 fullShare (gatherOf I T) ∗ bufs c arg6 arg7 arg8 arg9 G' W' -∗ Q ⟨⟩)
        -∗ wp frame (wpE defs₀ Variants.nat c.tc none) E
          (cc0__nms_body (F := F) arg0 harg0 arg1 harg1 arg2 harg2 arg3 harg3 arg4 harg4 arg5 harg5 arg6 harg6 arg7 harg7 arg8 harg8 arg9 harg9) Q) := by
  rw [body_eq]
  iintro ⟨H, H2, H3, H4, HB⟩ Hk
  rw [show ∀ (p : Prog (TpuEff nD τ sig (Elt F) (Λ₀ F) .tc) PUnit) (k : PUnit → Prog (TpuEff nD τ sig (Elt F) (Λ₀ F) .tc) PUnit), p.bind k = (p >>= k) from fun _ _ => rfl, wp_bind]
  iapply (wp_gather c E _ arg0 arg1 arg5 I T g hI)
  isplitl [H]
  · iexact H
  iintro ⟨H0, H1, H5⟩
  iapply (wp_rest Variants.nat c none E Q arg2 arg3 arg4 arg5 arg6 arg7 arg8 arg9 _ (callW_spec c E Q arg8 harg8 arg9 harg9) sc O O' _ G W) $$ [H2 H3 H4 H5 HB]
  · isplitl [H2]
    · iexact H2
    isplitl [H3]
    · iexact H3
    isplitl [H4]
    · iexact H4
    isplitl [H5]
    · iexact H5
    · iexact HB
  iintro %G' %W' ⟨H2, H3, H4, H5, HB⟩
  rw [wp_ret]
  imodintro
  iapply Hk
  isplitl [H0]
  · iexact H0
  isplitl [H1]
  · iexact H1
  isplitl [H2]
  · iexact H2
  isplitl [H3]
  · iexact H3
  isplitl [H4]
  · iexact H4
  isplitl [H5]
  · iexact H5
  · iexact HB

/-- The selection kernel is its loop. -/
theorem sel_eq (arg0 : Memref sig .tc .smem S1024 .i32) (harg0 : arg0.IsWhole) (arg1 : Memref sig .tc .vmem S4096x8 .f32) (harg1 : arg1.IsWhole)
    (arg2 : Memref sig .tc .vmem S1024x8 .f32) (harg2 : arg2.IsWhole) :
    cc1__sel_body (F := F) arg0 harg0 arg1 harg1 arg2 harg2 =
      (Scf.for k1_t1_loop.lb k1_t1_loop.ub k1_t1_loop.st k1_t1_ok ⟨⟩ fun k _ =>
        rowStep (F := F) arg0 arg1 arg2 (by decide) (k1_off1 k) (k1_off1_inb k) k1_off2 k1_chk1.dec (k1_off3 k) (k1_off3_inb k)
          (fun v => shapeCast S1x8 v shapeCasts_S1x8_S1x8)).bind fun _ => .ret ⟨⟩ := by
  delta cc1__sel_body
  chain_rfl

/-- The selection kernel, from the rows `T` and the words `I`. -/
theorem wp_sel (c : Dev nD) (E : Set Name) (Q : PUnit → sProp 𝕄) (arg0 : Memref sig .tc .smem S1024 .i32) (harg0 : arg0.IsWhole) (arg1 : Memref sig .tc .vmem S4096x8 .f32)
    (harg1 : arg1.IsWhole) (arg2 : Memref sig .tc .vmem S1024x8 .f32) (harg2 : arg2.IsWhole)
    (I : (Sv 1024).Idx → BitVec 32) (T : FVec F (Sh 4096 8) .f32) (X : FVec F (Sh 1024 8) .f32)
    (hI : ∀ x, (I x).toNat < 4096) :
    (iprop((owns c.tc arg0 fullShare I ∗ owns c.tc arg1 fullShare T ∗ owns c.tc arg2 fullShare X)
        ∗ (owns c.tc arg0 fullShare I ∗ owns c.tc arg1 fullShare T ∗ owns c.tc arg2 fullShare (gatherOf I T) -∗ Q ⟨⟩)) : sProp 𝕄)
      ⊢ wp frame (wpE defs₀ Variants.nat c.tc none) E (cc1__sel_body (F := F) arg0 harg0 arg1 harg1 arg2 harg2) Q := by
  rw [sel_eq, show ∀ (p : Prog (TpuEff nD τ sig (Elt F) (Λ₀ F) .tc) PUnit) (k : PUnit → Prog (TpuEff nD τ sig (Elt F) (Λ₀ F) .tc) PUnit), p.bind k = (p >>= k) from fun _ _ => rfl, wp_bind]
  iintro ⟨H, Hk⟩
  iapply (wp_rows (defs := defs₀) Variants.nat c none E _ _ _ k1_t1_ok (by decide) _ arg0 arg1 arg2 (Nat.succ_pos 7) k1_off1 k1_off1_inb k1_off2 k1_chk1.dec k1_off3 k1_off3_inb
    (fun v => shapeCast S1x8 v shapeCasts_S1x8_S1x8) (fun v => shapeCast_id v _) (fun k u => rfl)
    I T X (fun k => congrArg (fun v => ![v]) (iv_nat k.val (k.isLt.trans_le (by decide)))) (fun w => rfl)
    (fun k => congrArg (fun v => ![v, 0]) (iv_nat k.val (k.isLt.trans_le (by decide)))) hI)
  isplitl [H]
  · iexact H
  iintro H
  rw [wp_ret]
  imodintro
  iapply Hk $$ H

end Cert.KernelIdeal.Nms
-- ==== Proof.TopK.lean ====
/-
  The greatest entries of a list, read through one map of the positions: what is selected, where it
  stood, and what happens when entries are appended that are greater than none of the list's.
-/
module

public import proofs.«01_k».proof.Proof.Rows
public import Idealize.ShloMosaic.Lib.SortFacts
public import Idealize.ShloMosaic.Lib.Pipeline.Value
public import Idealize.ShloMosaic.Lib.Pointwise.SelectCore

@[expose] public section

noncomputable section

namespace Cert.Nms

open Idealize.ShloMosaic

variable {α : Type} {n k : ℕ}

/-- Where the entry stood that the sort by `gt` puts at a place. -/
def spot (gt : α → α → BitVec 1) (x : Fin n → α) : Fin n → Fin n :=
  sortedFrom fun a b => gt (x a) (x b) == 1#1

/-- The one axis of a list. -/
theorem along_at1 (j : (Sv n).Idx) (h : 0 < (Sv n).rank) (i : Fin n) : j.along (⟨0, h⟩ : Fin (Sv n).rank) i = at1 i :=
  Shape.Idx.along_rank1 j i

/-- The selected values. -/
theorem topK_val (gt : α → α → BitVec 1) (x : (Sv n).Idx → α) (h : (Sv n).Slices (fun _ => 0) (Sv k)) (hk : k ≤ n) (y : (Sv k).Idx) :
    (Host.topK (Sv k) 0 gt x h).1 y = x (at1 (spot gt (fun i => x (at1 i)) ((y 0).castLE hk))) := by
  unfold Host.topK Host.sort2 extractStridedSlice spot
  simp only [show (0 : ℕ) < (Sv n).rank from Nat.one_pos, dite_true]
  exact (congrArg x (along_at1 _ Nat.one_pos _)).trans (congrArg₂ (fun B i => x (at1 (sortedFrom B i : Fin n)))
    (funext fun a => funext fun b => congrArg₂ (fun u v => gt (x u) (x v) == 1#1) (along_at1 _ Nat.one_pos a) (along_at1 _ Nat.one_pos b)) (Fin.ext (Nat.zero_add _)))

/-- The places of the selected values. -/
theorem topK_idx (gt : α → α → BitVec 1) (x : (Sv n).Idx → α) (h : (Sv n).Slices (fun _ => 0) (Sv k)) (hk : k ≤ n) (y : (Sv k).Idx) :
    (Host.topK (Sv k) 0 gt x h).2 y = BitVec.ofNat 32 (spot gt (fun i => x (at1 i)) ((y 0).castLE hk)).val := by
  unfold Host.topK Host.sort2 extractStridedSlice spot iotaInDim
  simp only [show (0 : ℕ) < (Sv n).rank from Nat.one_pos, dite_true]
  exact (congrArg (fun u : (Sv n).Idx => BitVec.ofNat 32 (u 0).val) (along_at1 _ Nat.one_pos _)).trans (congrArg₂ (fun B i => BitVec.ofNat 32 (sortedFrom B i : Fin n).val)
    (funext fun a => funext fun b => congrArg₂ (fun u v => gt (x u) (x v) == 1#1) (along_at1 _ Nat.one_pos a) (along_at1 _ Nat.one_pos b)) (Fin.ext (Nat.zero_add _)))

/-- The place of a selected value is a place of the list. -/
theorem topK_lt (gt : α → α → BitVec 1) (x : (Sv n).Idx → α) (h : (Sv n).Slices (fun _ => 0) (Sv k)) (hk : k ≤ n) (hn : n ≤ 2 ^ 32) (y : (Sv k).Idx) :
    ((Host.topK (Sv k) 0 gt x h).2 y).toNat < n := by
  rw [topK_idx gt x h hk, BitVec.toNat_ofNat, Nat.mod_eq_of_lt (lt_of_lt_of_le (Fin.isLt _) hn)]
  exact Fin.isLt _

/-! ## Appending small entries -/

/-- Inserting into a list with a tail the new entry comes before. -/
theorem insertBefore_append {ι : Type} (before : ι → ι → Bool) (a : ι) (S T : List ι) (hT : ∀ t ∈ T, before t a = false) :
    insertBefore before a (S ++ T) = insertBefore before a S ++ T := by
  induction S with
  | nil =>
    cases T with
    | nil => rfl
    | cons t T =>
      show (if before t a then _ else _) = _
      rw [hT t List.mem_cons_self]
      rfl
  | cons s S ih =>
    show (if before s a then s :: insertBefore before a (S ++ T) else a :: s :: (S ++ T))
      = (if before s a then s :: insertBefore before a S else a :: s :: S) ++ T
    rw [ih]
    split <;> rfl

/-- Sorting a list followed by entries that come before none of its own. -/
theorem stableSort_append {ι : Type} (before : ι → ι → Bool) (S T : List ι) (hT : ∀ s ∈ S, ∀ t ∈ T, before t s = false) :
    stableSort before (S ++ T) = stableSort before S ++ stableSort before T := by
  induction S with
  | nil => rfl
  | cons s S ih =>
    show insertBefore before s (stableSort before (S ++ T)) = insertBefore before s (stableSort before S) ++ stableSort before T
    rw [ih fun s' hs' => hT s' (List.mem_cons_of_mem _ hs'), insertBefore_append]
    intro t ht
    exact hT s List.mem_cons_self t ((perm_stableSort before T).mem_iff.mp ht)

/-- Inserting commutes with renaming. -/
theorem insertBefore_map {ι κ : Type} (f : ι → κ) (before : κ → κ → Bool) (a : ι) (S : List ι) :
    insertBefore before (f a) (S.map f) = (insertBefore (fun x y => before (f x) (f y)) a S).map f := by
  induction S with
  | nil => rfl
  | cons s S ih =>
    show (if before (f s) (f a) then f s :: insertBefore before (f a) (S.map f) else f a :: f s :: S.map f)
      = (if before (f s) (f a) then s :: insertBefore (fun x y => before (f x) (f y)) a S else a :: s :: S).map f
    rw [ih]
    split <;> rfl

/-- Sorting commutes with renaming. -/
theorem stableSort_map {ι κ : Type} (f : ι → κ) (before : κ → κ → Bool) (S : List ι) :
    stableSort before (S.map f) = (stableSort (fun x y => before (f x) (f y)) S).map f := by
  induction S with
  | nil => rfl
  | cons s S ih =>
    show insertBefore before (f s) (stableSort before (S.map f)) = _
    rw [ih, insertBefore_map]
    rfl

/-- The numbers below `p + q` are those below `p` and then `q` more. -/
theorem finRange_append (p q : ℕ) : List.finRange (p + q) = (List.finRange p).map (Fin.castAdd q) ++ (List.finRange q).map (Fin.natAdd p) := by
  rw [← List.ofFn_id, List.ofFn_add, List.finRange, List.finRange, List.map_ofFn, List.map_ofFn]
  rfl

/-- A list of `p + q` entries of which the last `q` are greater than none of the first `p`: its first
    places, as far as the first `p` reach, are those of the first `p` entries alone. -/
theorem spot_append {p q : ℕ} (gt : α → α → BitVec 1) (x : Fin (p + q) → α)
    (h : ∀ i j, gt (x (Fin.natAdd p j)) (x (Fin.castAdd q i)) ≠ 1#1) (i : Fin p) :
    spot gt x (Fin.castAdd q i) = Fin.castAdd q (spot gt (fun i => x (Fin.castAdd q i)) i) := by
  have e : sortPositions (p + q) (fun a b => gt (x a) (x b) == 1#1)
      = (sortPositions p (fun a b => gt (x (Fin.castAdd q a)) (x (Fin.castAdd q b)) == 1#1)).map (Fin.castAdd q)
        ++ stableSort (fun a b => gt (x a) (x b) == 1#1) ((List.finRange q).map (Fin.natAdd p)) := by
    unfold sortPositions
    rw [finRange_append, stableSort_append, stableSort_map]
    intro s hs t ht
    obtain ⟨i, -, rfl⟩ := List.mem_map.mp hs
    obtain ⟨j, -, rfl⟩ := List.mem_map.mp ht
    exact beq_eq_false_iff_ne.mpr (h i j)
  unfold spot sortedFrom
  rw [List.get_of_eq e, List.get_eq_getElem, List.getElem_append_left, List.getElem_map]
  · rfl
  · exact i.isLt.trans_eq ((length_sortPositions _ _).symm.trans (List.length_map _).symm)

end Cert.Nms

end
-- ==== Proof.Turns.lean ====
/-
  The transposed copy of the boxes: what the thirty-two turns leave does not depend on what the
  buffer held before them, so neither do the kept flags.  The index words that the selections hand to
  the row loops are rows of their tables.
-/
module

public import proofs.«01_k».proof.Proof.TopK

@[expose] public section

noncomputable section

namespace Cert.Nms

open Idealize.ShloMosaic

variable {F : FTy → Type} [FloatOps F]

/-- The table turned over. -/
def over (G : FVec F (Sh 4096 8) .f32) : FVec F (Sh 8 4096) .f32 := fun y => G (at2 (y 1) (y 0))

/-- Reading a place that a store wrote. -/
theorem putR_at {s : Shape} {β : Type} (r : Rect s) (w : r.shape.Idx → β) (X : s.Idx → β) (x : r.shape.Idx) (y : s.Idx) (h : r.emb x = y) :
    putR r w X y = w x := by
  rw [← h]
  exact putR_emb r w X x

/-- One turn at a place of its columns. -/
theorem turn_in (G : FVec F (Sh 4096 8) .f32) (W : FVec F (Sh 8 4096) .f32) (b : ℕ) (h : 0 + 8 ≤ 8 ∧ 128 * b + 128 ≤ 4096) (h' : 128 * b + 128 ≤ 4096 ∧ 0 + 8 ≤ 8)
    (y : (Sh 8 4096).Idx) (hy : 128 * b ≤ (y 1).val ∧ (y 1).val < 128 * b + 128) :
    putR (rc 8 128 0 (128 * b) h) (transpose (Sh 8 128) [1, 0] (rd G 128 8 (128 * b) 0 h') (by decide)) W y = G (at2 (y 1) (y 0)) := by
  have hj : (y 1).val - 128 * b < 128 := by omega
  refine (putR_at (rc 8 128 0 (128 * b) h) _ W (at2 (y 0) ⟨(y 1).val - 128 * b, hj⟩) y (at2_ext _ _ ?_ ?_)).trans ?_
  · rw [rc_emb]; exact Nat.zero_add _
  · rw [rc_emb]; exact Nat.add_sub_cancel' hy.1
  · refine congrArg G (at2_ext _ _ ?_ ?_)
    · rw [rc_emb]; exact Nat.add_sub_cancel' hy.1
    · rw [rc_emb]; exact Nat.zero_add _

/-- One turn at any other place. -/
theorem turn_out (v : FVec F (Sh 8 128) .f32) (W : FVec F (Sh 8 4096) .f32) (b : ℕ) (h : 0 + 8 ≤ 8 ∧ 128 * b + 128 ≤ 4096)
    (y : (Sh 8 4096).Idx) (hy : ¬(128 * b ≤ (y 1).val ∧ (y 1).val < 128 * b + 128)) :
    putR (rc 8 128 0 (128 * b) h) v W y = W y := by
  refine putR_of_not _ _ _ _ fun x hx => hy ?_
  have e := congrArg (fun z : (Sh 8 4096).Idx => (z 1).val) hx
  have e' : 128 * b + (x 1).val = (y 1).val := (rc_emb 8 128 0 (128 * b) h x 1).symm.trans e
  have hl : (x 1).val < 128 := (x 1).isLt
  omega

/-- The turned columns hold the table turned over, the others what they held. -/
theorem turnsF_eq (G : FVec F (Sh 4096 8) .f32) : ∀ (n b : ℕ) (h : b + n ≤ 32) (W : FVec F (Sh 8 4096) .f32) (y : (Sh 8 4096).Idx),
    turnsF G n b h W y = if 128 * b ≤ (y 1).val ∧ (y 1).val < 128 * (b + n) then over G y else W y
  | 0, b, h, W, y => by rw [if_neg (by omega)]; rfl
  | n + 1, b, h, W, y => by
    rw [turnsF, turnsF_eq G n]
    by_cases hy : 128 * b ≤ (y 1).val ∧ (y 1).val < 128 * b + 128
    · rw [if_neg (by omega), if_pos (by omega)]
      exact turn_in G W b _ _ y hy
    · rw [turn_out _ W b _ y hy]
      split
      · rw [if_pos (by omega)]
      · rw [if_neg (by omega)]

/-- After all the turns the buffer holds the whole table turned over. -/
theorem turnsF_all (G : FVec F (Sh 4096 8) .f32) (W : FVec F (Sh 8 4096) .f32) (h : 0 + 32 ≤ 32) : turnsF G 32 0 h W = over G := by
  funext y
  rw [turnsF_eq, if_pos]
  have : (y 1).val < 4096 := (y 1).isLt
  omega

/-- The kept flags of the candidates `g`. -/
def keepC (g : FVec F (Sh 4096 16) .f32) : FVec F (Sh 4096 1) .f32 :=
  rd (blocksF (over (geomOf g)) 32 0 (by omega) (geomOf g)) 4096 1 0 5 (by omega)

/-- They are the kernel's, whatever the transposed buffer held. -/
theorem keepOf_eq (g : FVec F (Sh 4096 16) .f32) (W : FVec F (Sh 8 4096) .f32) : keepOf g W = keepC g := by
  unfold keepOf keepC
  rw [turnsF_all]

/-! ## The index words -/

/-- The 4000 selected rows and the 96 rows of the padding are rows of the padded table. -/
theorem rows_lt (gt : F .f32 → F .f32 → BitVec 1) (x : FVec F (Sv 20000) .f32) (h : (Sv 20000).Slices (fun _ => 0) (Sv 4000))
    (v : IVec (Sv 96) 32) (hv : ∀ i, (v i).toNat < 20096) (hc : Shape.Concatenates [Sv 4000, Sv 96] (Sv 4096) 0) (y : (Sv 4096).Idx) :
    (concatenate (Sv 4096) 0 [⟨Sv 4000, (Host.topK (Sv 4000) 0 gt x h).2⟩, ⟨Sv 96, v⟩] hc y).toNat < 20096 := by
  refine concatenate_forall (P := fun w : BitVec 32 => w.toNat < 20096) (Sv 4096) 0 [⟨Sv 4000, (Host.topK (Sv 4000) 0 gt x h).2⟩, ⟨Sv 96, v⟩] hc ?_ y
  intro p hp i
  rcases List.mem_cons.mp hp with rfl | hp
  · exact (topK_lt gt x h (by decide) (by decide) i).trans (by decide)
  · obtain rfl := List.mem_singleton.mp hp
    exact hv i

/-- The rows of the padding. -/
theorem padRow_lt (hb : (⟨0, ![]⟩ : Shape).BroadcastsInDim (Sv 96) ![]) (i : (Sv 96).Idx) :
    (addi (broadcastInDim (Sv 96) ![] hb (constantI ⟨0, ![]⟩ 32 20000#32)) (iotaInDim (Sv 96) 32 0) i).toNat < 20096 := by
  have hi : (i 0).val < 96 := (i 0).isLt
  show (20000#32 + BitVec.ofNat 32 (i 0).val).toNat < 20096
  rw [BitVec.toNat_add, BitVec.toNat_ofNat, BitVec.toNat_ofNat]
  omega

/-- The thousand selected rows, and row 0 for the rest, are rows of the table. -/
theorem sel_lt (gt : F .f32 → F .f32 → BitVec 1) (x : FVec F (Sv 4096) .f32) (h : (Sv 4096).Slices (fun _ => 0) (Sv 1000))
    {u : Shape} (v : IVec u 32) (hv : ∀ i, v i = 0#32) (hp : (Sv 1000).Pads ![0] ![24] ![0] (Sv 1024)) (hu : 0 < u.numel) (y : (Sv 1024).Idx) :
    (pad (Sv 1024) ![0] ![24] ![0] (Host.topK (Sv 1000) 0 gt x h).2 v hp hu y).toNat < 4096 := by
  unfold pad
  split
  · exact topK_lt gt x h (by decide) (by decide) _
  · rw [hv]; decide

end Cert.Nms

end
-- ==== Proof.Regs.lean ====
/-
  The two kernel calls as segments of the program: what each array holds when a call is entered and
  when it is left.  The entry contents are any valuation whose index words are rows of the table.
-/
module

public import proofs.«01_k».proof.Proof.Kern
public import proofs.«01_k».proof.Proof.Turns
public import proofs.«01_k».proof.Proof.Gen.KernelIdeal.Regions
public import proofs.«01_k».proof.Proof.Gen.KernelIdeal.Points
public import Idealize.ShloMosaic.Lib.Pipeline.RegionArraysS
public import Idealize.ShloMosaic.Lib.Pipeline.ValueKit.Geometry

@[expose] public section

noncomputable section

namespace Cert.KernelIdeal.Nms

open Idealize.ShloMosaic Idealize.ShloMosaic.TcCoe Cert.KernelIdeal Cert.KernelIdeal.Gen Cert.Nms
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg BodyObligation)

variable {F : FTy → Type} [FloatOps F]

/-- The ghost algebra: the pipelines' transfers; the second component is never used. -/
abbrev UA : Type := UR sig nD τ × Counters

local notation "𝕄" => MT nD τ sig Unit (Elt F) ℕ UA ℕ

variable (V : Dev nD → Valuation τ sig (Elt F))

/-! ## What the calls leave -/

/-- The candidates gathered by the first call. -/
abbrev gath (c : Dev nD) : FVec F (Sh 4096 16) .f32 := gatherOf (D := 16) (N := 20096) (V c main_v18) (V c main_v14)

/-- The proposals. -/
def outP (c : Dev nD) : FVec F (Sh 4096 8) .f32 := propOf (gath V c)

/-- The masked scores. -/
def outM (c : Dev nD) : FVec F (Sh 4096 1) .f32 := maskOf (keepC (gath V c)) (V c main_v21)

/-- The selected proposals. -/
def outS (c : Dev nD) : FVec F (Sh 1024 8) .f32 := gatherOf (D := 8) (N := 4096) (V c main_v24) (V c main_v22_0)

/-! ## The proof data -/

/-- The first call: the inputs stay, the outputs end as `outP` and `outM`; the scratch rides along. -/
def dat0 (c : Dev nD) : Dat τ (Elt F) Unit ℕ UA ℕ (cfg0 (F := F)) c where
  A w := V c (Pipeline.arrRef spec0 w)
  after w _ := match w with
    | ⟨0, _⟩ => V c main_v18 | ⟨1, _⟩ => V c main_v14 | ⟨2, _⟩ => V c main_v21 | ⟨3, _⟩ => outP V c | ⟨4, _⟩ => outM V c
  Φ _ := Pipeline.scopedRest (Ix := Unit) (Name := ℕ) (U := UA) (Lvl := ℕ) (Val := Elt F) spec0 c
  q _ := fullShare
  owed _ := 0

/-- The second call. -/
def dat1 (c : Dev nD) : Dat τ (Elt F) Unit ℕ UA ℕ (cfg1 (F := F)) c where
  A w := V c (Pipeline.arrRef spec1 w)
  after w _ := match w with
    | ⟨0, _⟩ => V c main_v24 | ⟨1, _⟩ => V c main_v22_0 | ⟨2, _⟩ => outS V c
  Φ _ := Pipeline.scopedRest (Ix := Unit) (Name := ℕ) (U := UA) (Lvl := ℕ) (Val := Elt F) spec1 c
  q _ := fullShare
  owed _ := 0

/-- Every window starts at its array's first element. -/
theorem zero00 : ∀ a, win0_0.index t0_0 a = 0 := by decide +kernel
/-- Window 1 of the first call starts at the origin. -/
theorem zero01 : ∀ a, win0_1.index t0_0 a = 0 := by decide +kernel
/-- Window 2 of the first call starts at the origin. -/
theorem zero02 : ∀ a, win0_2.index t0_0 a = 0 := by decide +kernel
/-- Window 0 of the second call starts at the origin. -/
theorem zero10 : ∀ a, win1_0.index t1_0 a = 0 := by decide +kernel
/-- Window 1 of the second call starts at the origin. -/
theorem zero11 : ∀ a, win1_1.index t1_0 a = 0 := by decide +kernel

/-- What the calls fetch: the whole arrays. -/
theorem before00 (c : Dev nD) (d : ((cfg0 (F := F)).win 0).block.Idx → Elt F ((cfg0 (F := F)).win 0).elt) :
    (dat0 V c).before 0 t0_0 d = V c main_v18 := by
  rw [Pipeline.Dat.before_fetched _ _ _ (fetch0_0 _)]
  unfold Pipeline.Dat.fetched Pipeline.Dat.blockOf
  dsimp only [dat0]
  funext j
  exact congrArg (V c main_v18) (funext fun a => Fin.ext (Pipeline.Window.rect_emb_val_of_index_zero win0_0 t0_0 a (zero00 a) _))
/-- What window 1 of the first call holds before the body. -/
theorem before01 (c : Dev nD) (d : ((cfg0 (F := F)).win 1).block.Idx → Elt F ((cfg0 (F := F)).win 1).elt) :
    (dat0 V c).before 1 t0_0 d = V c main_v14 := by
  rw [Pipeline.Dat.before_fetched _ _ _ (fetch0_1 _)]
  unfold Pipeline.Dat.fetched Pipeline.Dat.blockOf
  dsimp only [dat0]
  funext j
  exact congrArg (V c main_v14) (funext fun a => Fin.ext (Pipeline.Window.rect_emb_val_of_index_zero win0_1 t0_0 a (zero01 a) _))
/-- What window 2 of the first call holds before the body. -/
theorem before02 (c : Dev nD) (d : ((cfg0 (F := F)).win 2).block.Idx → Elt F ((cfg0 (F := F)).win 2).elt) :
    (dat0 V c).before 2 t0_0 d = V c main_v21 := by
  rw [Pipeline.Dat.before_fetched _ _ _ (fetch0_2 _)]
  unfold Pipeline.Dat.fetched Pipeline.Dat.blockOf
  dsimp only [dat0]
  funext j
  exact congrArg (V c main_v21) (funext fun a => Fin.ext (Pipeline.Window.rect_emb_val_of_index_zero win0_2 t0_0 a (zero02 a) _))
/-- What window 0 of the second call holds before the body. -/
theorem before10 (c : Dev nD) (d : ((cfg1 (F := F)).win 0).block.Idx → Elt F ((cfg1 (F := F)).win 0).elt) :
    (dat1 V c).before 0 t1_0 d = V c main_v24 := by
  rw [Pipeline.Dat.before_fetched _ _ _ (fetch1_0 _)]
  unfold Pipeline.Dat.fetched Pipeline.Dat.blockOf
  dsimp only [dat1]
  funext j
  exact congrArg (V c main_v24) (funext fun a => Fin.ext (Pipeline.Window.rect_emb_val_of_index_zero win1_0 t1_0 a (zero10 a) _))
/-- What window 1 of the second call holds before the body. -/
theorem before11 (c : Dev nD) (d : ((cfg1 (F := F)).win 1).block.Idx → Elt F ((cfg1 (F := F)).win 1).elt) :
    (dat1 V c).before 1 t1_0 d = V c main_v22_0 := by
  rw [Pipeline.Dat.before_fetched _ _ _ (fetch1_1 _)]
  unfold Pipeline.Dat.fetched Pipeline.Dat.blockOf
  dsimp only [dat1]
  funext j
  exact congrArg (V c main_v22_0) (funext fun a => Fin.ext (Pipeline.Window.rect_emb_val_of_index_zero win1_1 t1_0 a (zero11 a) _))

/-- The outputs are written back whole. -/
theorem whole03 : win0_3.WholeAt t0_0 := by decide +kernel
/-- Window 4 of the first call is its whole array. -/
theorem whole04 : win0_4.WholeAt t0_0 := by decide +kernel
/-- Window 2 of the second call is its whole array. -/
theorem whole12 : win1_2.WholeAt t1_0 := by decide +kernel

/-- What the outputs' arrays hold in the end. -/
theorem last03 (c : Dev nD) : (dat0 V c).arrAt 3 (cfg0 (F := F)).N = outP V c := by
  refine (dat0 V c).arrAt_eq_of_after_last 3 t0_0 whole03 _ fun j => ?_
  rfl
/-- After the first call the array of window 4 holds the masked scores. -/
theorem last04 (c : Dev nD) : (dat0 V c).arrAt 4 (cfg0 (F := F)).N = outM V c := by
  refine (dat0 V c).arrAt_eq_of_after_last 4 t0_0 whole04 _ fun j => ?_
  rfl
/-- After the second call the array of window 2 holds the selected rows. -/
theorem last12 (c : Dev nD) : (dat1 V c).arrAt 2 (cfg1 (F := F)).N = outS V c := by
  refine (dat1 V c).arrAt_eq_of_after_last 2 t1_0 whole12 _ fun j => ?_
  rfl

/-- The first call's body does what the proof data say. -/
theorem body0 (hI : ∀ c x, (V c main_v18 x : BitVec 32).toNat < 20096) (c : Dev nD) : BodyObligation (dat0 V c) (defs₀ (F := F)) Variants.nat () Set.univ := fun t => by
  obtain rfl := fin_N0 t
  rw [bigSep_W0, bigSep_W0]
  rw [show (dat0 V c).Φ t0_0.castSucc = Pipeline.scopedRest spec0 c from rfl, show (dat0 V c).Φ t0_0.succ = Pipeline.scopedRest spec0 c from rfl]
  unfold Dat.owesAt
  rw [scopedRest0_eq]
  rw [show (dat0 V c).owed t0_0.castSucc = 0 from rfl, show (dat0 V c).owed t0_0.succ = 0 from rfl]
  iintro ⟨⟨⟨%f0, S0⟩, ⟨%f1, S1⟩, ⟨%f2, S2⟩, ⟨%f3, S3⟩, ⟨%f4, S4⟩, SR⟩, HO, ⟨%d0, H0⟩, ⟨%d1, H1⟩, ⟨%d2, H2⟩, ⟨%d3, H3⟩, ⟨%d4, H4⟩⟩
  have e0 : (dat0 V c).before (0 : Fin 5) t0_0 d0 = V c main_v18 := before00 V c d0
  have e1 : (dat0 V c).before (1 : Fin 5) t0_0 d1 = V c main_v14 := before01 V c d1
  have e2 : (dat0 V c).before (2 : Fin 5) t0_0 d2 = V c main_v21 := before02 V c d2
  simp only [e0, e1, e2]
  ihave S0 := Entails.of_eq (owns_whole c.tc cc0_scratch0 fullShare f0).symm $$ S0
  ihave S1 := Entails.of_eq (owns_whole c.tc cc0_scratch1 fullShare f1).symm $$ S1
  ihave S2 := Entails.of_eq (owns_whole c.tc cc0_scratch2 fullShare f2).symm $$ S2
  ihave S3 := Entails.of_eq (owns_whole c.tc cc0_scratch3 fullShare f3).symm $$ S3
  ihave S4 := Entails.of_eq (owns_whole c.tc cc0_scratch4 fullShare f4).symm $$ S4
  iapply (wp_nms c Set.univ _ (st0_0 t0_0) (hstage0_0 0) (st0_1 t0_0) (hstage0_1 0) (st0_2 t0_0) (hstage0_2 0) (st0_3 t0_0) (hstage0_3 0) (st0_4 t0_0) (hstage0_4 0)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (V c main_v18) (V c main_v14) (V c main_v21) (hI c) _ _ f0 f1 f2) $$ [S0 S1 S2 S3 S4 H0 H1 H2 H3 H4]
  · isplitl [H0 H1 S0]
    · isplitl [H0]
      · iexact H0
      isplitl [H1]
      · iexact H1
      · iexact S0
    isplitl [H2]
    · iexact H2
    isplitl [H3]
    · iexact H3
    isplitl [H4]
    · iexact H4
    unfold bufs
    isplitl [S1]
    · iexact S1
    isplitl [S2]
    · iexact S2
    isplitl [S3]
    · iexists _; iexact S3
    · iexists _; iexact S4
  rw [keepOf_eq]
  unfold bufs
  iintro %G' %W' ⟨H0, H1, H2, H3, H4, S0, S1, S2, ⟨%A, S3⟩, ⟨%P, S4⟩⟩
  isplitl [S0 S1 S2 S3 S4 SR]
  · isplitl [S0]
    · iexists _; iapply (Entails.of_eq (owns_whole c.tc cc0_scratch0 fullShare _)); iexact S0
    isplitl [S1]
    · iexists _; iapply (Entails.of_eq (owns_whole c.tc cc0_scratch1 fullShare _)); iexact S1
    isplitl [S2]
    · iexists _; iapply (Entails.of_eq (owns_whole c.tc cc0_scratch2 fullShare _)); iexact S2
    isplitl [S3]
    · iexists _; iapply (Entails.of_eq (owns_whole c.tc cc0_scratch3 fullShare _)); iexact S3
    isplitl [S4]
    · iexists _; iapply (Entails.of_eq (owns_whole c.tc cc0_scratch4 fullShare _)); iexact S4
    iexact SR
  isplitl [HO]
  · unfold Pipeline.owesWithin
    icases HO with ⟨%W, -, HO⟩
    iexists W
    isplitr
    · ipureintro; exact fun _ _ => Or.inl trivial
    iexact HO
  isplitl [H0]
  · iexact H0
  isplitl [H1]
  · iexact H1
  isplitl [H2]
  · iexact H2
  isplitl [H3]
  · iexact H3
  · iexact H4

/-- The second call's body does what the proof data say. -/
theorem body1 (hI : ∀ c x, (V c main_v24 x : BitVec 32).toNat < 4096) (c : Dev nD) : BodyObligation (dat1 V c) (defs₀ (F := F)) Variants.nat () Set.univ := fun t => by
  obtain rfl := fin_N1 t
  rw [bigSep_W1, bigSep_W1]
  rw [show (dat1 V c).Φ t1_0.castSucc = Pipeline.scopedRest spec1 c from rfl, show (dat1 V c).Φ t1_0.succ = Pipeline.scopedRest spec1 c from rfl]
  unfold Dat.owesAt
  rw [show (dat1 V c).owed t1_0.castSucc = 0 from rfl, show (dat1 V c).owed t1_0.succ = 0 from rfl]
  iintro ⟨SR, HO, ⟨%d0, H0⟩, ⟨%d1, H1⟩, ⟨%d2, H2⟩⟩
  have e0 : (dat1 V c).before (0 : Fin 3) t1_0 d0 = V c main_v24 := before10 V c d0
  have e1 : (dat1 V c).before (1 : Fin 3) t1_0 d1 = V c main_v22_0 := before11 V c d1
  simp only [e0, e1]
  iapply (wp_sel c Set.univ _ (st1_0 t1_0) (hstage1_0 0) (st1_1 t1_0) (hstage1_1 0) (st1_2 t1_0) (hstage1_2 0) (V c main_v24) (V c main_v22_0) _ (hI c))
  isplitl [H0 H1 H2]
  · isplitl [H0]
    · iexact H0
    isplitl [H1]
    · iexact H1
    · iexact H2
  iintro ⟨H0, H1, H2⟩
  isplitl [SR]
  · iexact SR
  isplitl [HO]
  · unfold Pipeline.owesWithin
    icases HO with ⟨%W, -, HO⟩
    iexists W
    isplitr
    · ipureintro; exact fun _ _ => Or.inl trivial
    iexact HO
  isplitl [H0]
  · iexact H0
  isplitl [H1]
  · iexact H1
  · iexact H2

/-! ## The segments -/

/-- Every semaphore a TensorCore waits at has the one level there is. -/
abbrev L : GSem nD τ sig → Finset Unit := fun g => if g.1.2 = .tc then {()} else ∅
abbrev lv : GSem nD τ sig → Unit → ℕ := fun _ _ => 0

variable (V' : Dev nD → Valuation τ sig (Elt F))

/-- The two calls' proof data, the first entered at `V`, the second at `V'`. -/
def pdats : (p : Fin 2) → (c : Dev nD) → Dat τ (Elt F) Unit ℕ UA ℕ (cfgs (F := F) p) c
  | 0 => dat0 V
  | 1 => dat1 V'
  | ⟨_ + 2, h⟩ => absurd h (Nat.not_lt.2 (Nat.le_add_left _ _))

/-- The levels bound nothing, as nothing is owed. -/
theorem cut (p : Fin 2) : Pipeline.LevelCut (pcfgs (F := F)) adm () L lv p (fun _ : Dev nD => (0 : CellTallies nD τ sig Unit)) (fun _ => 0) where
  hι c w s := Finset.mem_singleton_self ()
  hιb c w s := le_rfl
  hD c g i h := absurd h (lt_irrefl _)

/-- Nothing stands beside a call's scratch buffers. -/
theorem with_emp (P : sProp 𝕄) : iprop(P ∗ emp) ⊢ P := by
  iintro ⟨H, -⟩; iexact H
/-- A statement may stand beside the empty one. -/
theorem of_emp (P : sProp 𝕄) : P ⊢ iprop(P ∗ emp) := by
  iintro H
  isplitl
  · iexact H
  iempintro

/-- The first call's invariant is that its scratch buffers are there. -/
theorem in0 (c : Dev nD) : iprop(Pipeline.scopedRest spec0 c ∗ emp) ⊢ (dat0 V c).Φ 0 := with_emp (F := F) _
/-- What the first call keeps at its end covers what its scope gives back. -/
theorem out0 (c : Dev nD) : (dat0 V c).Φ (Fin.last (cfg0 (F := F)).N) ⊢ iprop(Pipeline.scopedRest spec0 c ∗ emp) := of_emp (F := F) _

set_option backward.isDefEq.respectTransparency.types false in
/-- The first call. -/
def reg0 (hI : ∀ c x, (V c main_v18 x : BitVec 32).toNat < 20096) :
    RegionSeg (pcfgs (F := F)) adm (pdats V V') () defs₀ Variants.nat L lv 0 :=
  RegionSeg.ofHeldIn (pcfgs (F := F)) adm (pdats V V') () defs₀ Variants.nat L lv 0 (fun _ => 0) (Pipeline.ucRefs τ sig) (fun _ => iprop(emp)) (fun _ => iprop(emp))
    (launch0 (F := F)).toP rfl (fun c => (body0 V hI c).loose) (fun _ _ => rfl) (fun _ => rfl)
    (fun c => (dat0 V c).share_full fun _ => rfl)
    (in0 V) (out0 V)
    (fun _ => 0) (cut 0) (fun _ => iprop(emp)) V (fun c w => rfl)

set_option backward.isDefEq.respectTransparency.types false in
/-- The second call. -/
def reg1 (hI : ∀ c x, (V' c main_v24 x : BitVec 32).toNat < 4096) :
    RegionSeg (pcfgs (F := F)) adm (pdats V V') () defs₀ Variants.nat L lv 1 :=
  RegionSeg.ofHeldIn (pcfgs (F := F)) adm (pdats V V') () defs₀ Variants.nat L lv 1 (fun _ => 0) (Pipeline.ucRefs τ sig) (fun _ => iprop(emp)) (fun _ => iprop(emp))
    (launch1 (F := F)).toP rfl (fun c => (body1 V' hI c).loose) (fun _ _ => rfl) (fun _ => rfl)
    (fun c => (dat1 V' c).share_full fun _ => rfl)
    (fun c => with_emp (Pipeline.scopedRest spec1 c)) (fun c => of_emp (Pipeline.scopedRest spec1 c))
    (fun _ => 0) (cut 1) (fun _ => iprop(emp)) V' (fun c w => rfl)

/-- What a core holds between the calls beside the buffers: that it owes nothing. -/
abbrev idle (c : Dev nD) : sProp 𝕄 := iprop(∃ Wd, owes c.tc (0 : CellTallies nD τ sig Unit) Wd)

/-- The two calls' arrays are among the buffers that live from first to last. -/
theorem arrs0 : Pipeline.arrRefs (τ := τ) (pcfgs (F := F) 0).spec ⊆ Pipeline.ucRefs τ sig := Pipeline.arrRefs_sub_ucRefs spec0 (by decide +kernel)
/-- The arrays of the second call are among those of the program. -/
theorem arrs1 : Pipeline.arrRefs (τ := τ) (pcfgs (F := F) 1).spec ⊆ Pipeline.ucRefs τ sig := Pipeline.arrRefs_sub_ucRefs spec1 (by decide +kernel)

set_option backward.isDefEq.respectTransparency.types false in
theorem reg0_pre (hI) (c : Dev nD) : iprop(StableHlo.held c.tc (Pipeline.ucRefs τ sig) (V c) ∗ idle c) ⊢ (reg0 V V' hI).pre c := by
  unfold reg0 idle
  refine BIBase.Entails.trans ?_ (RegionSeg.ofHeldIn_pre arrs0 c)
  iintro ⟨H, HO⟩
  isplitl [H]
  · iexact H
  isplitl [HO]
  · iexact HO
  isplitl <;> iempintro

set_option backward.isDefEq.respectTransparency.types false in
theorem reg1_pre (hI) (c : Dev nD) : iprop(StableHlo.held c.tc (Pipeline.ucRefs τ sig) (V' c) ∗ idle c) ⊢ (reg1 V V' hI).pre c := by
  unfold reg1 idle
  refine BIBase.Entails.trans ?_ (RegionSeg.ofHeldIn_pre arrs1 c)
  iintro ⟨H, HO⟩
  isplitl [H]
  · iexact H
  isplitl [HO]
  · iexact HO
  isplitl <;> iempintro

set_option backward.isDefEq.respectTransparency.types false in
theorem reg0_post (hI) (c : Dev nD) : (reg0 V V' hI).post c ⊢ iprop(StableHlo.held c.tc (Pipeline.ucRefs τ sig) (Pipeline.afterRegion (dat0 V c) (V c)) ∗ idle c) := by
  unfold reg0 idle
  refine BIBase.Entails.trans (RegionSeg.ofHeldIn_post arrs0 c) ?_
  iintro ⟨H, HO, -⟩
  isplitl [H]
  · iexact H
  · iexact HO

set_option backward.isDefEq.respectTransparency.types false in
theorem reg1_post (hI) (c : Dev nD) : (reg1 V V' hI).post c ⊢ iprop(StableHlo.held c.tc (Pipeline.ucRefs τ sig) (Pipeline.afterRegion (dat1 V' c) (V' c)) ∗ idle c) := by
  unfold reg1 idle
  refine BIBase.Entails.trans (RegionSeg.ofHeldIn_post arrs1 c) ?_
  iintro ⟨H, HO, -⟩
  isplitl [H]
  · iexact H
  · iexact HO

end Cert.KernelIdeal.Nms

end
-- ==== Proof.Ends.lean ====
module

public import proofs.«01_k».proof.Proof.Regs
public import Idealize.ShloMosaic.Lib.Claim
public import Idealize.ShloMosaic.Lib.StableHlo.RunRead
public import Idealize.ShloMosaic.Lib.StableHlo.RunHlo

@[expose] public section

noncomputable section

/-!
# The launch of @main

The two calls' records join the host's stretches; every buffer that lives from first to last ends at the generated chain
of valuations, the calls' outputs filled in by `outs`.
-/

namespace Cert.KernelIdeal.Nms

open Idealize.ShloMosaic Idealize.ShloMosaic.TcCoe Cert.KernelIdeal Cert.KernelIdeal.Gen Cert.Nms
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg Seg)

variable {F : FTy → Type} [FloatOps F]

local notation "𝕄" => MT nD τ sig Unit (Elt F) ℕ UA ℕ

variable (m : (ℓ : Loc nD τ sig) → Buf (Elt F) ℓ)

/-! ## What the calls leave in their outputs' buffers -/

/-- What the first call leaves. -/
def outsA : Outs (F := F) := fun _ r c =>
  Function.update (Function.update (V1 m c) main_v22_0 (outP (V1 m) c)) main_v22_1 (outM (V1 m) c) r

/-- What the two calls leave. -/
def outs : Outs (F := F) := fun J r c =>
  match J with
  | 5 => Function.update (V4 m (outsA m) c) main_v25 (outS (V4 m (outsA m)) c) r
  | _ => outsA m J r c

/-- The windows of a call have arrays of their own. -/
theorem inj0 : Function.Injective (Pipeline.arrRef spec0) := by decide
/-- The windows of the second call stand for different arrays. -/
theorem inj1 : Function.Injective (Pipeline.arrRef spec1) := by decide

/-- The two results of the first call are different arrays. -/
theorem ne01 : (Proc.devRef .tc main_v22_0 : DevRef τ sig) ≠ Proc.devRef .tc main_v22_1 := by decide

/-- The first result of the first call is the array of decoded boxes. -/
theorem outs_0 (c : Dev nD) : outs m 2 main_v22_0 c = outP (V1 m) c := by
  show Function.update (Function.update (V1 m c) main_v22_0 (outP (V1 m) c)) main_v22_1 (outM (V1 m) c) (Proc.devRef .tc main_v22_0) = _
  rw [Function.update_of_ne ne01, Function.update_self]

/-- The second result of the first call is the array of masked scores. -/
theorem outs_1 (c : Dev nD) : outs m 2 main_v22_1 c = outM (V1 m) c := by
  show Function.update (Function.update (V1 m c) main_v22_0 (outP (V1 m) c)) main_v22_1 (outM (V1 m) c) (Proc.devRef .tc main_v22_1) = _
  rw [Function.update_self]

/-- The result of the second call is the array of selected rows. -/
theorem outs_2 (c : Dev nD) : outs m 5 main_v25 c = outS (V4 m (outs m)) c := by
  show Function.update (V4 m (outsA m) c) main_v25 (outS (V4 m (outsA m)) c) (Proc.devRef .tc main_v25) = _
  rw [Function.update_self]
  rfl

/-- The chain's contents of the calls' outputs. -/
theorem V2_1 (c : Dev nD) : V2 m (outs m) c main_v22_1 = outM (V1 m) c := by
  unfold V2
  rw [Function.update_self, outs_1]

/-- After the first call its first result holds the decoded boxes. -/
theorem V2_0 (c : Dev nD) : V2 m (outs m) c main_v22_0 = outP (V1 m) c := by
  unfold V2
  rw [Function.update_of_ne ne01, Function.update_self, outs_0]

/-- After the second call its result holds the selected rows. -/
theorem V5_2 (c : Dev nD) : V5 m (outs m) c main_v25 = outS (V4 m (outs m)) c := by
  unfold V5
  rw [Function.update_self, outs_2]

/-! ## The index words name rows -/

/-- The padded selection before the first call. -/
theorem V1_v18 (c : Dev nD) (x) : (V1 m c main_v18 x : BitVec 32).toNat < 20096 := by
  have e : V1 m c main_v18 = concatenate S4096 0 [⟨S4000, V1 m c main_indices⟩, ⟨S96, V1 m c main_v17⟩] concatenates_S4000_S96_S4096_d0 := by
    unfold_abbrev_sides
    after_results_simp
    rfl
  have e' : V1 m c main_indices = (Host.topK S4000 0 (FloatOps.cmpfTotal .gt) (V1 m c main_v5) sliceFits_S20000_S4000).2 := by
    unfold_abbrev_sides
    after_results_simp
    rfl
  have e'' : V1 m c main_v17 = addi (broadcastInDim S96 ![] bcast_S_S96 (constantI S_ 32 20000#32)) (iotaInDim S96 32 0) := by
    unfold_abbrev_sides
    after_results_simp
  rw [e, e', e'']
  exact rows_lt _ _ _ _ (padRow_lt _) _ x

/-- The padded selection before the second call. -/
theorem V4_v24 (o : Outs (F := F)) (c : Dev nD) (x) : (V4 m o c main_v24 x : BitVec 32).toNat < 4096 := by
  have e : V4 m o c main_v24 = pad S1024 ![0] ![24] ![0] (V3 m o c main_indices_7) (V3 m o c main_c_8) pads_S1000_S1024_0240 := by
    unfold_abbrev_sides
    after_results_simp
    rfl
  have e' : V3 m o c main_indices_7 = (Host.topK S1000 0 (FloatOps.cmpfTotal .gt) (V3 m o c main_v23) sliceFits_S4096_S1000).2 := by
    unfold_abbrev_sides
    after_results_simp
    rfl
  have e'' : V3 m o c main_c_8 = constantI S_ 32 0#32 := by
    unfold_abbrev_sides
    after_results_simp
  rw [e, e', e'']
  exact sel_lt _ _ _ _ (fun _ => rfl) _ _ x

/-! ## A call's effect on the valuation -/

/-- After the first call the buffers hold what the chain says. -/
theorem after0 (c : Dev nD) (b : DevRef τ sig) (hb : b ∈ Pipeline.ucRefs τ sig) : Pipeline.afterRegion (dat0 (V1 m) c) (V1 m c) b = V2 m (outs m) c b := by
  obtain ⟨r, -, rfl⟩ := Finset.mem_map.mp (Finset.mem_filter.mp hb).1
  by_cases h1 : r = main_v22_1
  · subst h1
    exact ((Pipeline.afterRegion_arr (dat0 (V1 m) c) (V1 m c) inj0 (4 : Fin 5)).trans (last04 (V1 m) c)).trans
      (V2_1 m c).symm
  by_cases h0 : r = main_v22_0
  · subst h0
    exact ((Pipeline.afterRegion_arr (dat0 (V1 m) c) (V1 m c) inj0 (3 : Fin 5)).trans (last03 (V1 m) c)).trans
      (V2_0 m c).symm
  refine (Pipeline.afterRegion_keeps (dat0 (V1 m) c) (V1 m c) inj0 (fun _ => rfl) r fun w hw => ?_).trans (V2_of m (outs m) c r (by simp [h0, h1])).symm
  match w with
  | ⟨0, _⟩ => rfl
  | ⟨1, _⟩ => rfl
  | ⟨2, _⟩ => rfl
  | ⟨3, _⟩ => exact absurd hw.symm h0
  | ⟨4, _⟩ => exact absurd hw.symm h1

/-- After the second call the buffers hold what the chain says. -/
theorem after1 (c : Dev nD) (b : DevRef τ sig) (hb : b ∈ Pipeline.ucRefs τ sig) : Pipeline.afterRegion (dat1 (V4 m (outs m)) c) (V4 m (outs m) c) b = V5 m (outs m) c b := by
  obtain ⟨r, -, rfl⟩ := Finset.mem_map.mp (Finset.mem_filter.mp hb).1
  by_cases h1 : r = main_v25
  · subst h1
    exact ((Pipeline.afterRegion_arr (dat1 (V4 m (outs m)) c) (V4 m (outs m) c) inj1 (2 : Fin 3)).trans (last12 (V4 m (outs m)) c)).trans
      (V5_2 m c).symm
  refine (Pipeline.afterRegion_keeps (dat1 (V4 m (outs m)) c) (V4 m (outs m) c) inj1 (fun _ => rfl) r fun w hw => ?_).trans (V5_of m (outs m) c r (by simp [h1])).symm
  match w with
  | ⟨0, _⟩ => rfl
  | ⟨1, _⟩ => rfl
  | ⟨2, _⟩ => exact absurd hw.symm h1

/-! ## The run -/

/-- The launch's ghosts: the pipelines' transfers, and a unit beside them. -/
def u₀ : UA := (initOf (Pipeline.cells (cfgs (F := F)) cellOf_inj) (Pipeline.launchToks (cfgs (F := F)) cellOf_inj), 1)

abbrev EP : Emb (URounds (GSem nD τ sig) Unit) 𝕄 := embL

/-- The launch state splits into what the pipelines start from. -/
theorem hu₀ : (ownU (u₀ (F := F)) : sProp 𝕄) ⊢ |={Set.univ}=> iprop(BI.own ((EP (F := F)) (initOf (Pipeline.cells (cfgs (F := F)) cellOf_inj) (Pipeline.launchToks (cfgs (F := F)) cellOf_inj))) ∗ bigSep Finset.univ fun _ : Dev nD => iprop(emp)) := by
  unfold u₀
  iintro Hu
  ihave H := (ownU_pair _ _) $$ Hu
  icases H with ⟨HP, -⟩
  imodintro
  isplitl [HP]
  · iexact HP
  iapply (show (BI.emp : sProp 𝕄) ⊢ bigSep Finset.univ (fun _ : Dev nD => (BI.emp : sProp 𝕄)) from by rw [BI.bigSep_emp_const])
  iempintro

/-- The launch: each core holds its buffers and owes nothing. -/
theorem init (ρ : Dev nD → PrngReg) :
    iprop((bigSep Finset.univ fun c : Dev nD => iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ emp)) ∗ levAts L lv)
    ⊢ (|={Set.univ}=> bigSep Finset.univ (fun c : Dev nD => iprop(StableHlo.held c.tc (Pipeline.ucRefs τ sig) (V0 m c) ∗ idle c)) : sProp 𝕄) := by
  refine Pipeline.initEach L lv fun c => ?_
  rw [show unscopedBufs c (fun b => m ((c : Thread nD τ).loc b)) = StableHlo.held (c : Thread nD τ) (Pipeline.ucRefs τ sig) (V0 m c) from Pipeline.unscopedBufs_held c (V0 m c)]
  iintro ⟨⟨Hh, -, HO, -, -, -⟩, -⟩
  imodintro
  isplitl [Hh]
  · iexact Hh
  iexists ∅
  iexact HO

set_option backward.isDefEq.respectTransparency.types false in
/-- Every run ends, with every buffer that lives from first to last at the last valuation and every counter at zero. -/
theorem run_ends (ρ : Dev nD → PrngReg) :
    θ_run defs (onTc (τ := τ) (main (F := F))) ⟨m, fun _ => 0, ρ⟩ (fun r =>
      (∀ c : Dev nD, ∀ b ∈ Pipeline.ucRefs τ sig, r.2.mem (((c : Thread nD τ).1, b) : Loc nD τ sig) = V6 m (outs m) c b) ∧ r.2.sem = fun _ => 0) := by
  refine Pipeline.θ_run_regions_kit_dev_sems (pcfgs (F := F)) adm (pdats (V1 m) (V4 m (outs m))) () cellOf_inj EP defs₀ Variants.nat L lv m ρ main
    (segs m (outs m) Variants.nat L lv (fun _ => idle) () (pdats (V1 m) (V4 m (outs m))) (reg0 (V1 m) (V4 m (outs m)) (V1_v18 m)) (reg1 (V1 m) (V4 m (outs m)) (V4_v24 m (outs m))))
    (fun c Q => by
      rewrite [main_chain c, Pipeline.Seg.run_eq_chain,
        show (segs m (outs m) Variants.nat L lv (fun _ => idle) () (pdats (V1 m) (V4 m (outs m))) (reg0 (V1 m) (V4 m (outs m)) (V1_v18 m)) (reg1 (V1 m) (V4 m (outs m)) (V4_v24 m (outs m))) c).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (fun _ => 0)
    (fun g h => if_neg h) (fun _ => iprop(emp)) u₀ hu₀
    (T₀ := fun c => iprop(StableHlo.held (c : Thread nD τ) (Pipeline.ucRefs τ sig) (V0 m c) ∗ idle c))
    (Tₙ := fun c => StableHlo.held (c : Thread nD τ) (Pipeline.ucRefs τ sig) (V6 m (outs m) c))
    (hch := fun c => ⟨.rfl, reg0_pre (V1 m) (V4 m (outs m)) (V1_v18 m) c,
      (reg0_post (V1 m) (V4 m (outs m)) (V1_v18 m) c).trans (by rw [StableHlo.held_congr (c : Thread nD τ) (after0 m c)]; exact .rfl), .rfl,
      reg1_pre (V1 m) (V4 m (outs m)) (V4_v24 m (outs m)) c,
      (reg1_post (V1 m) (V4 m (outs m)) (V4_v24 m (outs m)) c).trans (by rw [StableHlo.held_congr (c : Thread nD τ) (after1 m c)]; exact .rfl), .rfl⟩)
    (hinit := init m ρ) (QY := fun c s => ∀ b ∈ Pipeline.ucRefs τ sig, s.mem (((c : Thread nD τ).1, b) : Loc nD τ sig) = V6 m (outs m) c b)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V6 m (outs m) c) s') $$ [Hh HSI]
  · isplitl [Hh] <;> iassumption
  icases Hr with ⟨%h, HSI⟩
  imodintro
  isplitr
  · ipureintro
    exact h
  · iexact HSI

/-- A buffer of the TensorCore outside every call lives from first to last. -/
theorem live (r : Ref sig .tc) (h : ((Proc.devRef .tc r : DevRef τ sig)).isScoped = false) : (Proc.devRef .tc r : DevRef τ sig) ∈ Pipeline.ucRefs τ sig :=
  Finset.mem_filter.mpr ⟨StableHlo.devRef_mem_tcRefs r, by rw [h]; decide⟩

/-- Every run ends with the arguments unchanged, the result at the last valuation's and every counter at zero. -/
theorem run_result (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_v28) = V6 m (outs m) c main_v28) ∧ r.2.sem = fun _ => 0) := by
  refine θ_run_mono (run_ends m ρ) ?_
  rintro r ⟨h, hz⟩
  exact ⟨fun c => ⟨(h c _ (live main_arg0 (by decide))).trans (V6_main_arg0 m (outs m) c),
    (h c _ (live main_arg1 (by decide))).trans (V6_main_arg1 m (outs m) c),
    (h c _ (live main_arg2 (by decide))).trans (V6_main_arg2 m (outs m) c), h c _ (live main_v28 (by decide))⟩, hz⟩

end Cert.KernelIdeal.Nms

end
-- ==== Proof.RefRun.lean ====
module

public import proofs.«01_k».proof.Proof.Gen.ReferenceIdeal.Run
public import Idealize.ShloMosaic.Lib.Quiescent
public import Idealize.ShloMosaic.Lib.StableHlo.RunHlo

@[expose] public section

noncomputable section

/-!
# The reference's run

Every run of the reference ends with its arguments as they were, its counters at zero, and its result at the fold.
-/

namespace Cert.ReferenceIdeal.Nms

open Idealize.ShloMosaic Idealize.ShloMosaic.TcCoe Cert.ReferenceIdeal Cert.ReferenceIdeal.Gen Cert.ReferenceIdeal.Value
open Idealize.SL.Sem Idealize.ShloMosaic.StableHlo

variable {F : FTy → Type} [FloatOps F] (m : (ℓ : Loc nD τ sig) → Buf (Elt F) ℓ)

/-- The contents at the loop's exit test that fails. -/
abbrev atEnd (c : Dev nD) : Valuation τ sig (Elt F) := after condOps (atK m 4000 c)

/-- The contents at the end. -/
abbrev fin (c : Dev nD) : Valuation τ sig (Elt F) := finalContents condOps preI bodyI postI 4000 m c

/-- The buffers the stretches before the loop write, those one turn writes, and those the stretches after it write. -/
abbrev preW : List (Ref sig .tc) := hostOps0_W ++ hostOps0_1_W ++ hostOps0_2_W ++ hostOps0_3_W ++ hostOps0_4_W
abbrev tripW : List (Ref sig .tc) := condOps_W ++ while0Ops0_W
abbrev postW : List (Ref sig .tc) := [main_cst_14] ++ [main_call2_v0, main_call2_v1, main_v131] ++ [main_values_15, main_indices_16, main_c_17, main_v132, main_v133, main_c_18, main_v134, main_v135, main_v136, main_v137, main_v138, main_v139, main_v140]

/-- Arrays that the operations before the loop leave alone are as at the start. -/
theorem entry_of (c : Dev nD) (r : Ref sig .tc) (h : r ∉ preW) : entryContents preI m c r = m ((c.tc : Thread nD τ).loc r) := by
  simp only [preW, List.mem_append, not_or] at h
  obtain ⟨⟨⟨⟨h0, h1⟩, h2⟩, h3⟩, h4⟩ := h
  exact (after_of_writes_sub hostOps0_4 _ hostOps0_4_writes h4).trans <| (after_of_writes_sub hostOps0_3 _ hostOps0_3_writes h3).trans <|
    (after_of_writes_sub hostOps0_2 _ hostOps0_2_writes h2).trans <| (after_of_writes_sub hostOps0_1 _ hostOps0_1_writes h1).trans <|
    (after_of_writes_sub hostOps0 _ hostOps0_writes h0)

/-- A buffer no turn writes is through the whole loop as at its entry. -/
theorem atK_of (c : Dev nD) (r : Ref sig .tc) (h : r ∉ tripW) : ∀ k, atK m k c r = entryContents preI m c r
  | 0 => rfl
  | k + 1 => by
    simp only [tripW, List.mem_append, not_or] at h
    exact (after_of_writes_sub while0Ops0 _ while0Ops0_writes h.2).trans <| (after_of_writes_sub condOps _ condOps_writes h.1).trans
      (atK_of c r (by simp only [tripW, List.mem_append, not_or]; exact h) k)

/-- Arrays that the loop leaves alone are as before it. -/
theorem atEnd_of (c : Dev nD) (r : Ref sig .tc) (h : r ∉ tripW) : atEnd m c r = entryContents preI m c r := by
  refine (after_of_writes_sub condOps _ condOps_writes ?_).trans (atK_of m c r h 4000)
  simp only [tripW, List.mem_append, not_or] at h
  exact h.1

/-- What the first group of operations after the loop writes. -/
theorem w5 : (hostOps0_5 : List (HloOp τ sig (Elt F))).Forall fun op => op.writes ⊆ (([main_cst_14] : List (Ref sig .tc)).map (Proc.devRef (τ := τ) .tc)).toFinset :=
  forall_writes_sub_of_map rfl
/-- What the second group of operations after the loop writes. -/
theorem w6 : (hostOps0_6 : List (HloOp τ sig (Elt F))).Forall fun op => op.writes ⊆ (([main_call2_v0, main_call2_v1, main_v131] : List (Ref sig .tc)).map (Proc.devRef (τ := τ) .tc)).toFinset :=
  forall_writes_sub_of_map rfl
/-- What the third group of operations after the loop writes. -/
theorem w7 : (hostOps0_7 : List (HloOp τ sig (Elt F))).Forall fun op => op.writes ⊆ (([main_values_15, main_indices_16, main_c_17, main_v132, main_v133, main_c_18, main_v134, main_v135, main_v136, main_v137, main_v138, main_v139, main_v140] : List (Ref sig .tc)).map (Proc.devRef (τ := τ) .tc)).toFinset :=
  forall_writes_sub_of_map rfl

/-- Arrays that the operations after the loop leave alone are as the loop left them. -/
theorem fin_of (c : Dev nD) (r : Ref sig .tc) (h : r ∉ postW) : fin m c r = atEnd m c r := by
  simp only [postW, List.mem_append, not_or] at h
  obtain ⟨⟨h5, h6⟩, h7⟩ := h
  exact (after_of_writes_sub hostOps0_7 _ w7 h7).trans <| (after_of_writes_sub hostOps0_6 _ w6 h6).trans <| (after_of_writes_sub hostOps0_5 _ w5 h5)

/-- An argument is never written. -/
theorem fin_arg (c : Dev nD) (r : Ref sig .tc) (h : r ∉ preW) (h' : r ∉ tripW) (h'' : r ∉ postW) : fin m c r = m ((c.tc : Thread nD τ).loc r) :=
  (fin_of m c r h'').trans <| (atEnd_of m c r h').trans (entry_of m c r h)

/-- Every run ends with the arguments unchanged, the result at the fold and every counter at zero. -/
theorem run_result (ρ : Dev nD → PrngReg) : θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_v140) = fin m c main_v140) ∧ r.2.sem = fun _ => 0) := by
  refine θ_run_mono (run_fold m ρ) ?_
  intro r h
  exact ⟨fun c => ⟨(h c main_arg0 (by decide)).trans (fin_arg m c main_arg0 (by decide) (by decide) (by decide)),
    (h c main_arg1 (by decide)).trans (fin_arg m c main_arg1 (by decide) (by decide) (by decide)),
    (h c main_arg2 (by decide)).trans (fin_arg m c main_arg2 (by decide) (by decide) (by decide)),
    h c main_v140 (by decide)⟩, sem_eq_zero_of_no_sems (by decide) _⟩

end Cert.ReferenceIdeal.Nms

end
-- ==== Proof.KernReads.lean ====
/-
  What the kernel's buffers hold around its two calls, in terms of one another.
-/
module

public import proofs.«01_k».proof.Proof.Ends

@[expose] public section

noncomputable section

namespace Cert.KernelIdeal.Nms

open Idealize.ShloMosaic Idealize.ShloMosaic.TcCoe Cert.KernelIdeal Cert.KernelIdeal.Gen
open Idealize.SL.Sem Idealize.ShloMosaic.StableHlo Cert.Nms

variable {F : FTy → Type} [FloatOps F] (m : (ℓ : Loc nD τ sig) → Buf (Elt F) ℓ)

/-- The scores. -/
def sig1 (x : FVec F S20000 .f32) : FVec F S20000 .f32 :=
  Host.divf (broadcastInDim S20000 ![] bcast_S_S20000 (constant (F := F) S_ .f32 0x3F800000#32))
    (addf (broadcastInDim S20000 ![] bcast_S_S20000 (constant (F := F) S_ .f32 0x3F800000#32)) (Host.exp (Host.negf x)))

/-- The first selection. -/
theorem V1_values (c : Dev nD) : V1 m c main_values
    = (Host.topK S4000 0 (FloatOps.cmpfTotal .gt) (sig1 (m ((c.tc : Thread nD τ).loc main_arg1))) sliceFits_S20000_S4000).1 := by
  unfold_abbrev_sides
  after_results_simp
  rfl
/-- The first selection of the kernel: the places of the largest scores. -/
theorem V1_indices (c : Dev nD) : V1 m c main_indices
    = (Host.topK S4000 0 (FloatOps.cmpfTotal .gt) (sig1 (m ((c.tc : Thread nD τ).loc main_arg1))) sliceFits_S20000_S4000).2 := by
  unfold_abbrev_sides
  after_results_simp
  rfl

/-- The row numbers handed to the first call. -/
theorem V1_rows (c : Dev nD) : V1 m c main_v18 = concatenate S4096 0 [⟨S4000, V1 m c main_indices⟩, ⟨S96, V1 m c main_v17⟩] concatenates_S4000_S96_S4096_d0 := by
  unfold_abbrev_sides
  after_results_simp
  rfl

/-- The scores handed to the first call. -/
theorem V1_v21 (c : Dev nD) : V1 m c main_v21 = shapeCast S4096x1 (concatenate S4096 0 [⟨S4000, V1 m c main_values⟩,
    ⟨S96, broadcastInDim S96 ![] bcast_S_S96 (constant (F := F) S_ .f32 0xC0000000#32)⟩] concatenates_S4000_S96_S4096_d0) shapeCasts_S4096_S4096x1 := by
  unfold_abbrev_sides
  after_results_simp
  rfl

/-- The packed table. -/
theorem V1_v14 (c : Dev nD) : V1 m c main_v14 = concatenate S20096x16 1 [⟨S20096x7, V1 m c main_v9⟩, ⟨S20096x1, V1 m c main_v12⟩, ⟨S20096x7, V1 m c main_v11⟩,
    ⟨S20096x1, V1 m c main_v13⟩] concatenates_S20096x7_S20096x1_S20096x7_S20096x1_S20096x16_d1 := by
  unfold_abbrev_sides
  after_results_simp
  rfl

/-- The anchors and the deltas, each with rows appended. -/
theorem V1_v9 (c : Dev nD) : V1 m c main_v9 = concatenate S20096x7 0 [⟨S20000x7, m ((c.tc : Thread nD τ).loc main_arg0)⟩, ⟨S96x7, V1 m c main_v8⟩]
    concatenates_S20000x7_S96x7_S20096x7_d0 := by
  unfold_abbrev_sides
  after_results_simp
  rfl
/-- The regressions of all rows, above those of the padding rows. -/
theorem V1_v11 (c : Dev nD) : V1 m c main_v11 = concatenate S20096x7 0 [⟨S20000x7, m ((c.tc : Thread nD τ).loc main_arg2)⟩, ⟨S96x7, V1 m c main_v10⟩]
    concatenates_S20000x7_S96x7_S20096x7_d0 := by
  unfold_abbrev_sides
  after_results_simp
  rfl

variable (o : Outs (F := F))

/-- The second selection. -/
theorem V3_values (c : Dev nD) : V3 m o c main_values_6
    = (Host.topK S1000 0 (FloatOps.cmpfTotal .gt) (shapeCast S4096 (V2 m o c main_v22_1) shapeCasts_S4096x1_S4096) sliceFits_S4096_S1000).1 := by
  unfold V3
  after_results_simp
  rfl
/-- The second selection of the kernel: the places of the largest masked scores. -/
theorem V3_indices (c : Dev nD) : V3 m o c main_indices_7
    = (Host.topK S1000 0 (FloatOps.cmpfTotal .gt) (shapeCast S4096 (V2 m o c main_v22_1) shapeCasts_S4096x1_S4096) sliceFits_S4096_S1000).2 := by
  unfold V3
  after_results_simp
  rfl

/-- The row numbers handed to the second call. -/
theorem V4_rows (c : Dev nD) : V4 m o c main_v24 = pad S1024 ![0] ![24] ![0] (V3 m o c main_indices_7) (V3 m o c main_c_8) pads_S1000_S1024_0240 := by
  unfold V4
  after_results_simp
  rfl

/-- The result. -/
theorem V6_v28 (c : Dev nD) : V6 m o c main_v28 = concatenate S1000x8 1 [⟨S1000x7, extractStridedSlice S1000x7 ![0, 0] (V5 m o c main_v25) slices_S1024x8_S1000x7_0_0⟩,
    ⟨S1000x1, broadcastInDim S1000x1 ![0] bcast_S1000_S1000x1_0 (V5 m o c main_values_6)⟩] concatenates_S1000x7_S1000x1_S1000x8_d1 := by
  unfold V6
  after_results_simp
  rfl

end Cert.KernelIdeal.Nms
-- ==== Proof.IdealOps.lean ====
/-
  The kernel's block operations over the extended reals, each read at one place.
-/
module

public import proofs.«01_k».proof.Proof.Turns
public import Idealize.ShloMosaic.Lib.Pointwise
public import Idealize.ShloMosaic.Lib.MatmulPlain
public import Idealize.ShloMosaic.Lib.IdealHost

@[expose] public section

noncomputable section

namespace Cert.Nms

open Idealize.ShloMosaic Idealize.SL.Sem

/-- The overlap threshold and the floor of the union, as printed. -/
def thr : EReal := Ideal.ofBits .f32 0x3F333333#32
def eps : EReal := Ideal.ofBits .f32 0x322BCC77#32

/-- The overlap of two boxes, each given by its bounds and its area. -/
def ov (p0 p1 p2 p3 p4 q0 q1 q2 q3 q4 : EReal) : EReal :=
  Ideal.div (max 0 (min p1 q1 - max p0 q0) * max 0 (min p3 q3 - max p2 q2))
    (max (p4 + q4 - max 0 (min p1 q1 - max p0 q0) * max 0 (min p3 q3 - max p2 q2)) eps)

/-- Half a mark: the value one where something holds, and zero elsewhere. -/
def bitOf (p : Prop) : EReal := open Classical in if p then 1 else 0

/-- The mark of a true statement is one. -/
theorem bitOf_true {p : Prop} (h : p) : bitOf p = 1 := by unfold bitOf; exact if_pos h
/-- The mark of a false statement is zero. -/
theorem bitOf_false {p : Prop} (h : ¬ p) : bitOf p = 0 := by unfold bitOf; exact if_neg h
/-- Equivalent statements have the same mark. -/
theorem bitOf_congr {p q : Prop} (h : p ↔ q) : bitOf p = bitOf q := by rw [propext h]
/-- A mark is one exactly when the statement is true. -/
theorem bitOf_eq_one {p : Prop} : bitOf p = 1 ↔ p := by
  by_cases h : p
  · rw [bitOf_true h]; exact iff_of_true rfl h
  · rw [bitOf_false h]; exact iff_of_false (by simp) h
/-- A mark is positive exactly when the statement is true. -/
theorem bitOf_pos {p : Prop} : 0 < bitOf p ↔ p := by
  by_cases h : p
  · rw [bitOf_true h]; exact iff_of_true (by simp) h
  · rw [bitOf_false h]; exact iff_of_false (by simp) h
/-- A mark is never negative. -/
theorem bitOf_nonneg {p : Prop} : 0 ≤ bitOf p := by
  by_cases h : p
  · rw [bitOf_true h]; simp
  · rw [bitOf_false h]
/-- Marks are equal exactly when the statements are equivalent. -/
theorem bitOf_inj {p q : Prop} : bitOf p = bitOf q ↔ (p ↔ q) := by
  constructor
  · intro h
    rw [← bitOf_eq_one (p := p), h, bitOf_eq_one]
  · exact bitOf_congr

/-- The lowest value. -/
theorem ofBits_bot : Ideal.ofBits .f32 0xFF800000#32 = ⊥ := by simp [Ideal.ofBits, Ideal.ieee]

/-- A printed choice between one and zero. -/
theorem select_bit (c : BitVec 1) : Scalar.select c (1 : EReal) 0 = bitOf (c = 1#1) := by
  unfold Scalar.select bitOf
  by_cases h : c = 1#1 <;> simp [h]

/-- Two bits both set, each deciding something. -/
theorem and_bit (p q : Prop) [Decidable p] (c : BitVec 1) (hc : c = 1#1 ↔ q) : IntOp.andi (BitVec.ofBool (decide p)) c = 1#1 ↔ p ∧ q := by
  rw [← hc]
  by_cases h : p
  · simp only [h, decide_true, true_and]; clear hc; revert c; decide
  · simp only [h, decide_false, false_and, iff_false]; clear hc; revert c; decide

/-- The bit of a decision. -/
theorem bit_iff (p : Prop) [Decidable p] : BitVec.ofBool (decide p) = 1#1 ↔ p := by
  by_cases h : p <;> simp [h]

/-- Signed comparison of two small numbers. -/
theorem sgt_iff (x y : ℕ) (hx : x < 2 ^ 31) (hy : y < 2 ^ 31) : IntOp.cmpi .sgt (BitVec.ofNat 32 x) (BitVec.ofNat 32 y) = 1#1 ↔ y < x := by
  have ex : (BitVec.ofNat 32 x).toInt = x := by
    rw [BitVec.toInt_ofNat']; exact Int.bmod_eq_of_le (by omega) (by omega)
  have ey : (BitVec.ofNat 32 y).toInt = y := by
    rw [BitVec.toInt_ofNat']; exact Int.bmod_eq_of_le (by omega) (by omega)
  simp only [IntOp.cmpi, BitVec.slt, ex, ey]
  rw [bit_iff]
  omega

/-- Equality of two small numbers. -/
theorem eq_iff (x y : ℕ) (hx : x < 2 ^ 31) (hy : y < 2 ^ 31) : IntOp.cmpi .eq (BitVec.ofNat 32 x) (BitVec.ofNat 32 y) = 1#1 ↔ x = y := by
  simp only [IntOp.cmpi]
  constructor
  · intro h
    have h' : BitVec.ofNat 32 x = BitVec.ofNat 32 y := by
      by_contra c
      rw [beq_false_of_ne c] at h
      exact absurd h (by decide)
    have := congrArg BitVec.toNat h'
    simp only [BitVec.toNat_ofNat] at this
    omega
  · rintro rfl; simp

/-- A comparison's bit. -/
theorem ogt_iff (x y : EReal) : Ideal.cmp .ogt x y = 1#1 ↔ y < x := by
  by_cases h : y < x <;> simp [Ideal.cmp, h]

/-- The comparison for difference says yes exactly when the numbers differ. -/
theorem one_iff (x y : EReal) : Ideal.cmp .one x y = 1#1 ↔ x ≠ y := by
  by_cases h : x = y <;> simp [Ideal.cmp, h]

/-- The conjunction of two bits is one exactly when both are. -/
theorem and_iff (a b : BitVec 1) : a &&& b = 1#1 ↔ a = 1#1 ∧ b = 1#1 := by
  revert a b; decide

/-- The overlaps of a column and a row of boxes, at one place. -/
theorem iou_at (r0 r1 r2 r3 r4 : FVec Ideal (Sh 128 1) .f32) (c0 c1 c2 c3 c4 : FVec Ideal (Sh 1 128) .f32) (i j : Fin 128) :
    iou r0 r1 r2 r3 r4 c0 c1 c2 c3 c4 (ix2 i j)
      = ov (r0 (ix2 i 0)) (r1 (ix2 i 0)) (r2 (ix2 i 0)) (r3 (ix2 i 0)) (r4 (ix2 i 0))
          (c0 (ix2 0 j)) (c1 (ix2 0 j)) (c2 (ix2 0 j)) (c3 (ix2 0 j)) (c4 (ix2 0 j)) := by
  simp only [iou, pointwise, spreadC, spreadR, lit]
  rfl

/-- What an earlier block adds to a suppression, at one place: the largest of the marks of its kept boxes that overlap. -/
theorem aStep_at (g : FVec Ideal (Sh 128 8) .f32) (c0 c1 c2 c3 c4 sup : FVec Ideal (Sh 1 128) .f32) (j : Fin 128) :
    aStep g c0 c1 c2 c3 c4 sup (ix2 0 j)
      = max (sup (ix2 0 j)) (Finset.univ.fold max ⊥ fun i : Fin 128 =>
          bitOf (thr < ov (g (ix2 i 0)) (g (ix2 i 1)) (g (ix2 i 2)) (g (ix2 i 3)) (g (ix2 i 4))
            (c0 (ix2 0 j)) (c1 (ix2 0 j)) (c2 (ix2 0 j)) (c3 (ix2 0 j)) (c4 (ix2 0 j)) ∧ 0 < g (ix2 i 5))) := by
  simp only [aStep, pointwise, spreadC, spreadR, lit, iou_at, colOf, ofBits_bot, select_bit]
  refine congrArg (fun f => max (sup (ix2 0 j)) (Finset.fold max ⊥ f Finset.univ)) (funext fun i => bitOf_congr ?_)
  refine (and_bit _ _ _ (bit_iff _)).trans ?_
  simp only [Matrix.cons_val_zero, Nat.zero_add, Fin.eta]
  rfl

/-- The suppressions inside a block, at one place. -/
theorem mMat_at (r0 r1 r2 r3 r4 : FVec Ideal (Sh 128 1) .f32) (c0 c1 c2 c3 c4 : FVec Ideal (Sh 1 128) .f32) (i j : Fin 128) :
    mMat r0 r1 r2 r3 r4 c0 c1 c2 c3 c4 (ix2 i j)
      = bitOf (thr < ov (r0 (ix2 i 0)) (r1 (ix2 i 0)) (r2 (ix2 i 0)) (r3 (ix2 i 0)) (r4 (ix2 i 0))
          (c0 (ix2 0 j)) (c1 (ix2 0 j)) (c2 (ix2 0 j)) (c3 (ix2 0 j)) (c4 (ix2 0 j)) ∧ i.val < j.val) := by
  simp only [mMat, pointwise, lit, iou_at, select_bit]
  refine bitOf_congr ((and_bit _ _ _ ?_).trans Iff.rfl)
  have := i.isLt; have := j.isLt
  refine Iff.trans ?_ (sgt_iff j.val i.val (by omega) (by omega))
  simp

/-- One sweep, at one place. -/
theorem sweep_at (M : FVec Ideal (Sh 128 128) .f32) (kl a : FVec Ideal (Sh 1 128) .f32) (j : Fin 128) :
    sweep M kl a (ix2 0 j) = if 0 < ∑ k : Fin 128, a (ix2 0 k) * M (ix2 k j) then 0 else kl (ix2 0 j) := by
  have e : FloatOps.matmul dotRow none a M (constant (Sh 1 128) .f32 0x00000000#32) (ix2 0 j)
      = ∑ k : Fin 128, a (ix2 0 k) * M (ix2 k j) := by
    refine (Ideal.matmul_plain_apply (M := 1) (K := 128) (N := 128) none a M _ 0 j).trans ?_
    simp only [pointwise, zero_add]
    rfl
  have h : sweep M kl a (ix2 0 j) = Scalar.select (Ideal.cmp .ogt (FloatOps.matmul dotRow none a M (constant (Sh 1 128) .f32 0x00000000#32) (ix2 0 j))
      (Ideal.ofBits .f32 0x00000000#32)) (Ideal.ofBits .f32 0x00000000#32) (kl (ix2 0 j)) := rfl
  rw [h, e, Ideal.ofBits_zero_f32]
  show (if Ideal.cmp .ogt (∑ k : Fin 128, a (ix2 0 k) * M (ix2 k j)) 0 = 1#1 then (0 : EReal) else kl (ix2 0 j)) = _
  by_cases c : 0 < ∑ k : Fin 128, a (ix2 0 k) * M (ix2 k j)
  · rw [if_pos c, if_pos ((ogt_iff (∑ k : Fin 128, a (ix2 0 k) * M (ix2 k j)) 0).mpr c)]
  · rw [if_neg c, if_neg (fun h => c ((ogt_iff _ _).mp h))]

/-- Whether two rows differ somewhere. -/
theorem differ_iff (a p : FVec Ideal (Sh 1 128) .f32) : differ a p = 1#1 ↔ ∃ j : Fin 128, a (ix2 0 j) ≠ p (ix2 0 j) := by
  simp only [differ, pointwise, lit]
  rw [bit_iff, Finset.lt_fold_max, ofBits_bot]
  constructor
  · rintro (h | ⟨x, -, h⟩)
    · exact absurd h (by simp)
    · refine ⟨x.2, fun e => ?_⟩
      rw [if_neg (fun c => c e)] at h
      exact absurd h (lt_irrefl _)
  · rintro ⟨j, h⟩
    refine Or.inr ⟨(0, j), Finset.mem_univ _, ?_⟩
    rw [if_pos h]
    exact zero_lt_one

/-- A row turned into a column, at one place. -/
theorem turn_at (kl : FVec Ideal (Sh 1 128) .f32) (i : Fin 128) : turn kl (ix2 i 0) = ∑ k : Fin 128, bitOf (i = k) * kl (ix2 0 k) := by
  refine (Ideal.matmul_transposedRhs_apply (M := 128) (K := 128) (N := 1) none eye kl _ i 0).trans ?_
  simp only [eye, pointwise, zero_add]
  refine Finset.sum_congr rfl fun k _ => congrArg₂ (· * ·) ?_ rfl
  have := i.isLt; have := k.isLt
  have e := eq_iff i.val k.val (by omega) (by omega)
  have hb : ∀ c : BitVec 1, FloatOps.sitofp (F := Ideal) .f32 (BitVec.setWidth 32 c) = bitOf (c = 1#1) := by
    intro c
    have hc : c = 0#1 ∨ c = 1#1 := by revert c; decide
    rcases hc with rfl | rfl
    · rw [bitOf_false (by decide)]; show (((0#32).toInt : ℝ) : EReal) = 0; simp
    · rw [bitOf_true rfl]; show (((1#32).toInt : ℝ) : EReal) = 1; simp
  refine (hb _).trans (bitOf_congr ?_)
  refine Iff.trans ?_ (e.trans Fin.ext_iff.symm)
  simp

end Cert.Nms
-- ==== Proof.BlockKeep.lean ====
/-
  The fixed-point iteration inside one block keeps exactly the candidates that the greedy order keeps.
-/
module

public import proofs.«01_k».proof.Proof.IdealOps

@[expose] public section

noncomputable section

namespace Cert.Nms

open Idealize.ShloMosaic Idealize.SL.Sem

/-- One minus a mark is the opposite mark. -/
theorem one_sub_bitOf (p : Prop) : (1 : EReal) - bitOf p = bitOf (¬ p) := by
  by_cases h : p
  · rw [bitOf_true h, bitOf_false (not_not_intro h)]
    rw [← EReal.coe_one, ← EReal.coe_sub, sub_self, EReal.coe_zero]
  · rw [bitOf_false h, bitOf_true h, sub_zero]

/-- One less than a mark is another number. -/
theorem bitOf_sub_one_ne (p : Prop) : bitOf p ≠ bitOf p - 1 := by
  by_cases h : p
  · rw [bitOf_true h]
    have e : (1 : EReal) - 1 = 0 := by rw [← EReal.coe_one, ← EReal.coe_sub, sub_self, EReal.coe_zero]
    rw [e]; exact one_ne_zero
  · rw [bitOf_false h, zero_sub]
    intro e
    have h1 : (0 : EReal) < 0 := by
      calc (0 : EReal) = -1 := e
        _ < 0 := by rw [← EReal.coe_one, ← EReal.coe_neg, ← EReal.coe_zero, EReal.coe_lt_coe_iff]; norm_num
    exact absurd h1 (lt_irrefl _)

/-- A sum of products of marks is positive when some product is. -/
theorem sum_marks_pos (A C : Fin 128 → Prop) : 0 < ∑ k : Fin 128, bitOf (A k) * bitOf (C k) ↔ ∃ k, A k ∧ C k := by
  have hz : ∀ k ∈ (Finset.univ : Finset (Fin 128)), 0 ≤ bitOf (A k) * bitOf (C k) := by
    intro k _
    exact mul_nonneg bitOf_nonneg bitOf_nonneg
  constructor
  · intro h
    by_contra c
    have e : ∑ k : Fin 128, bitOf (A k) * bitOf (C k) = 0 := by
      refine Finset.sum_eq_zero fun k _ => ?_
      by_cases a : A k
      · rw [bitOf_false (fun d => c ⟨k, a, d⟩), mul_zero]
      · rw [bitOf_false a, zero_mul]
    rw [e] at h
    exact absurd h (lt_irrefl _)
  · rintro ⟨k, a, d⟩
    refine lt_of_lt_of_le ?_ (Finset.single_le_sum hz (Finset.mem_univ k))
    rw [bitOf_true a, bitOf_true d, mul_one]
    exact zero_lt_one

/-- The candidates that nothing before the block suppresses, as marks. -/
theorem kl0_at (sup : FVec Ideal (Sh 1 128) .f32) (j : Fin 128) : kl0 sup (ix2 0 j) = 1 - sup (ix2 0 j) := by
  simp only [kl0, pointwise, lit]

/-- The start of the remembered iterate. -/
theorem pv0_at (sup : FVec Ideal (Sh 1 128) .f32) (j : Fin 128) : pv0 sup (ix2 0 j) = kl0 sup (ix2 0 j) - 1 := by
  simp only [pv0, pointwise, lit]

section Block

variable (M : FVec Ideal (Sh 128 128) .f32) (sup : FVec Ideal (Sh 1 128) .f32) (S K : ℕ → Prop) (B : ℕ → ℕ → Prop)

/-- One sweep of marks, as marks. -/
theorem sweep_marks (hs : ∀ j : Fin 128, sup (ix2 0 j) = bitOf (S j)) (hM : ∀ i j : Fin 128, M (ix2 i j) = bitOf (B i j ∧ i.val < j.val))
    (a : FVec Ideal (Sh 1 128) .f32) (A : Fin 128 → Prop) (ha : ∀ j, a (ix2 0 j) = bitOf (A j)) (j : Fin 128) :
    sweep M (kl0 sup) a (ix2 0 j) = bitOf (¬ S j ∧ ∀ i : Fin 128, i.val < j.val → A i → ¬ B i j) := by
  have e : ∑ k : Fin 128, a (ix2 0 k) * M (ix2 k j) = ∑ k : Fin 128, bitOf (A k) * bitOf (B k j ∧ k.val < j.val) :=
    Finset.sum_congr rfl fun k _ => by rw [ha k, hM k j]
  rw [sweep_at, e, kl0_at, hs, one_sub_bitOf]
  by_cases c : ∃ k : Fin 128, A k ∧ (B k j ∧ k.val < j.val)
  · rw [if_pos ((sum_marks_pos _ _).mpr c), bitOf_false]
    rintro ⟨-, h⟩
    obtain ⟨k, h1, h2, h3⟩ := c
    exact h k h3 h1 h2
  · rw [if_neg (fun h => c ((sum_marks_pos _ _).mp h))]
    refine bitOf_congr ⟨fun h => ⟨h, fun i hi hA hB => c ⟨i, hA, hB, hi⟩⟩, And.left⟩

/-- A fixed point of the sweep is the greedy choice. -/
theorem fixed_keeps (hK : ∀ j : Fin 128, K j ↔ ¬ S j ∧ ∀ i : Fin 128, i.val < j.val → K i → ¬ B i j) (A : Fin 128 → Prop)
    (hA : ∀ j : Fin 128, A j ↔ ¬ S j ∧ ∀ i : Fin 128, i.val < j.val → A i → ¬ B i j) : ∀ n, ∀ j : Fin 128, j.val = n → (A j ↔ K j) := by
  intro n
  induction n using Nat.strong_induction_on with
  | _ n ih =>
    intro j hj
    rw [hA, hK]
    refine and_congr Iff.rfl (forall_congr' fun i => forall_congr' fun hi => ?_)
    rw [ih i.val (by omega) i rfl]

/-- The iteration: after `t` sweeps the first `t` marks are right, and it stops early only at a fixed point. -/
theorem runF_marks (hs : ∀ j : Fin 128, sup (ix2 0 j) = bitOf (S j)) (hM : ∀ i j : Fin 128, M (ix2 i j) = bitOf (B i j ∧ i.val < j.val))
    (hK : ∀ j : Fin 128, K j ↔ ¬ S j ∧ ∀ i : Fin 128, i.val < j.val → K i → ¬ B i j) :
    ∀ (n t : ℕ) (a p : FVec Ideal (Sh 1 128) .f32) (A : Fin 128 → Prop), t + n = 128 → (∀ j, a (ix2 0 j) = bitOf (A j)) →
      (∀ j : Fin 128, j.val < t → (A j ↔ K j)) →
      ((∀ j : Fin 128, a (ix2 0 j) = p (ix2 0 j)) → ∀ j : Fin 128, A j ↔ ¬ S j ∧ ∀ i : Fin 128, i.val < j.val → A i → ¬ B i j) →
      ∀ j : Fin 128, (runF M (kl0 sup) n (a, p)).1 (ix2 0 j) = bitOf (K j) := by
  intro n
  induction n with
  | zero =>
    intro t a p A ht ha hA _ j
    show a (ix2 0 j) = _
    rw [ha]
    exact bitOf_congr (hA j (by have := j.isLt; omega))
  | succ n ih =>
    intro t a p A ht ha hA hf j
    unfold runF
    by_cases c : differ a p = 1#1
    · rw [if_pos c]
      refine ih (t + 1) (sweep M (kl0 sup) a) a (fun j => ¬ S j ∧ ∀ i : Fin 128, i.val < j.val → A i → ¬ B i j) (by omega)
        (sweep_marks M sup S B hs hM a A ha) ?_ ?_ j
      · intro j hj
        rw [hK]
        refine and_congr Iff.rfl (forall_congr' fun i => forall_congr' fun hi => ?_)
        rw [hA i (by omega)]
      · intro he
        have h : ∀ j : Fin 128, A j ↔ (¬ S j ∧ ∀ i : Fin 128, i.val < j.val → A i → ¬ B i j) := by
          intro j
          have := he j
          rw [sweep_marks M sup S B hs hM a A ha, ha, bitOf_inj] at this
          exact this.symm
        intro j
        refine and_congr Iff.rfl (forall_congr' fun i => forall_congr' fun hi => ?_)
        rw [← h i]
    · rw [if_neg c]
      show a (ix2 0 j) = _
      rw [ha]
      refine bitOf_congr (fixed_keeps S K B hK A (hf fun j => ?_) j.val j rfl)
      by_contra d
      exact c ((differ_iff a p).mpr ⟨j, d⟩)

/-- What a block keeps, as marks. -/
theorem keepB_marks (hs : ∀ j : Fin 128, sup (ix2 0 j) = bitOf (S j)) (hM : ∀ i j : Fin 128, M (ix2 i j) = bitOf (B i j ∧ i.val < j.val))
    (hK : ∀ j : Fin 128, K j ↔ ¬ S j ∧ ∀ i : Fin 128, i.val < j.val → K i → ¬ B i j) (j : Fin 128) :
    keepB M sup (ix2 0 j) = bitOf (K j) := by
  refine runF_marks M sup S K B hs hM hK 128 0 (kl0 sup) (pv0 sup) (fun j => ¬ S j) rfl ?_ (fun j h => absurd h (by omega)) ?_ j
  · intro j
    rw [kl0_at, hs, one_sub_bitOf]
  · intro h
    have := h 0
    rw [pv0_at, kl0_at, hs, one_sub_bitOf] at this
    exact absurd this (bitOf_sub_one_ne _)

end Block

/-- A row of marks turned into a column. -/
theorem turn_marks (kl : FVec Ideal (Sh 1 128) .f32) (i : Fin 128) : turn kl (ix2 i 0) = kl (ix2 0 i) := by
  rw [turn_at, Finset.sum_eq_single i]
  · rw [bitOf_true rfl, one_mul]
  · intro k _ hk
    rw [bitOf_false (fun e => hk e.symm), zero_mul]
  · intro h
    exact absurd (Finset.mem_univ i) h

end Cert.Nms
-- ==== Proof.Greedy.lean ====
/-
  Greedy selection along the natural numbers: a place is kept when no kept place before it stands against it.
-/
module

public import proofs.«01_k».proof.Proof.Rows

@[expose] public section

namespace Cert.Nms

/-- The places kept by going through them in order: `j` is kept unless a kept `i` before it has `B i j`. -/
def Kept (B : ℕ → ℕ → Prop) (j : ℕ) : Prop := ∀ i, i < j → Kept B i → ¬ B i j
termination_by j

/-- What it means to be kept. -/
theorem kept_iff (B : ℕ → ℕ → Prop) (j : ℕ) : Kept B j ↔ ∀ i, i < j → Kept B i → ¬ B i j := by
  rw [Kept]

/-- Relations that agree below `n` keep the same places below `n`. -/
theorem kept_congr {B B' : ℕ → ℕ → Prop} (n : ℕ) (h : ∀ i j, i < n → j < n → (B i j ↔ B' i j)) :
    ∀ j, j < n → (Kept B j ↔ Kept B' j) := by
  intro j
  induction j using Nat.strong_induction_on with
  | _ j ih =>
    intro hj
    rw [kept_iff, kept_iff]
    refine forall_congr' fun i => forall_congr' fun hi => ?_
    rw [ih i hi (by omega), h i j (by omega) hj]

/-- The kept places of a stretch of `w` places from `s` on: those that no kept place before the stretch and no
    kept place earlier in it stands against. -/
theorem kept_block (B : ℕ → ℕ → Prop) (s j : ℕ) :
    Kept B (s + j) ↔ (¬ ∃ i, i < s ∧ Kept B i ∧ B i (s + j)) ∧ ∀ i, i < j → Kept B (s + i) → ¬ B (s + i) (s + j) := by
  rw [kept_iff]
  constructor
  · intro h
    refine ⟨fun ⟨i, hi, hk, hb⟩ => h i (by omega) hk hb, fun i hi hk => h (s + i) (by omega) hk⟩
  · rintro ⟨h1, h2⟩ i hi hk hb
    by_cases c : i < s
    · exact h1 ⟨i, c, hk, hb⟩
    · obtain ⟨d, rfl⟩ := Nat.exists_eq_add_of_le (Nat.le_of_not_lt c)
      exact h2 d (by omega) hk hb

end Cert.Nms
-- ==== Proof.KeepAll.lean ====
/-
  The thirty-two blocks together keep exactly the candidates that the greedy order keeps.
-/
module

public import proofs.«01_k».proof.Proof.BlockKeep
public import proofs.«01_k».proof.Proof.Greedy

@[expose] public section

noncomputable section

namespace Cert.Nms

open Idealize.ShloMosaic Idealize.SL.Sem

/-- A box array read by number. -/
def geo (G : FVec Ideal (Sh 4096 8) .f32) (i k : ℕ) : EReal := G (ix2 (Fin.ofNat 4096 i) (Fin.ofNat 8 k))

/-- Box `i` overlaps box `j` by more than the threshold. -/
def BadG (G : FVec Ideal (Sh 4096 8) .f32) (i j : ℕ) : Prop :=
  thr < ov (geo G i 0) (geo G i 1) (geo G i 2) (geo G i 3) (geo G i 4) (geo G j 0) (geo G j 1) (geo G j 2) (geo G j 3) (geo G j 4)

/-- A rectangle of the boxes, read by number. -/
theorem rd_geo (G : FVec Ideal (Sh 4096 8) .f32) (p q i k : ℕ) (h : i + p ≤ 4096 ∧ k + q ≤ 8) (r : Fin p) (c : Fin q) :
    rd G p q i k h (ix2 r c) = geo G (i + r.val) (k + c.val) := by
  unfold rd geo
  have hr := r.isLt; have hc := c.isLt
  refine congrArg G (at2_ext _ _ ?_ ?_)
  · rw [rc_emb]
    exact (Nat.mod_eq_of_lt (show i + r.val < 4096 by omega)).symm
  · rw [rc_emb]
    exact (Nat.mod_eq_of_lt (show k + c.val < 8 by omega)).symm

/-- A row of the transposed boxes, read by number. -/
theorem rd_over (G : FVec Ideal (Sh 4096 8) .f32) (k i : ℕ) (h : k + 1 ≤ 8 ∧ i + 128 ≤ 4096) (c : Fin 128) :
    rd (over G) 1 128 k i h (ix2 0 c) = geo G (i + c.val) k := by
  unfold rd geo over
  have hc := c.isLt
  refine congrArg G (at2_ext _ _ ?_ ?_)
  · refine (rc_emb 1 128 k i h (ix2 0 c) 1).trans ?_
    exact (Nat.mod_eq_of_lt (show i + c.val < 4096 by omega)).symm
  · refine (rc_emb 1 128 k i h (ix2 0 c) 0).trans ?_
    exact (Nat.mod_eq_of_lt (show k < 8 by omega)).symm

variable (G₀ : FVec Ideal (Sh 4096 8) .f32)

/-- After `b` blocks: the boxes as they were, and the kept marks of the first `b` blocks. -/
structure Upto (b : ℕ) (G : FVec Ideal (Sh 4096 8) .f32) : Prop where
  same : ∀ i k, i < 4096 → k < 5 → geo G i k = geo G₀ i k
  kept : ∀ i, i < 128 * b → geo G i 5 = bitOf (Kept (BadG G₀) i)

/-- The largest of some marks and a mark. -/
theorem max_marks (S : Prop) (A : Fin 128 → Prop) :
    max (bitOf S) (Finset.univ.fold max ⊥ fun i : Fin 128 => bitOf (A i)) = bitOf (S ∨ ∃ i, A i) := by
  refine le_antisymm (max_le ?_ ?_) ?_
  · by_cases h : S
    · rw [bitOf_true h, bitOf_true (Or.inl h)]
    · rw [bitOf_false h]; exact bitOf_nonneg
  · rw [Finset.fold_max_le]
    refine ⟨bot_le, fun i _ => ?_⟩
    by_cases h : A i
    · rw [bitOf_true h, bitOf_true (Or.inr ⟨i, h⟩)]
    · rw [bitOf_false h]; exact bitOf_nonneg
  · by_cases h : S ∨ ∃ i, A i
    · rcases h with h | ⟨i, h⟩
      · rw [bitOf_true (Or.inl h), bitOf_true h]; exact le_max_left _ _
      · rw [bitOf_true (Or.inr ⟨i, h⟩)]
        refine le_trans ?_ (le_max_right _ _)
        rw [Finset.le_fold_max]
        exact Or.inr ⟨i, Finset.mem_univ _, by rw [bitOf_true h]⟩
    · rw [bitOf_false h]; exact le_trans bitOf_nonneg (le_max_left _ _)

/-- Earlier blocks' suppressions of one candidate `J`, as a mark. -/
theorem supF_marks (b : ℕ) (hb : b < 32) (G : FVec Ideal (Sh 4096 8) .f32) (hG : Upto G₀ b G) (J : ℕ)
    (c0 c1 c2 c3 c4 : FVec Ideal (Sh 1 128) .f32) (j : Fin 128)
    (h0 : c0 (ix2 0 j) = geo G₀ J 0) (h1 : c1 (ix2 0 j) = geo G₀ J 1) (h2 : c2 (ix2 0 j) = geo G₀ J 2) (h3 : c3 (ix2 0 j) = geo G₀ J 3)
    (h4 : c4 (ix2 0 j) = geo G₀ J 4) :
    ∀ (n a : ℕ) (h : a + n ≤ 32) (sup : FVec Ideal (Sh 1 128) .f32), a + n ≤ b →
      sup (ix2 0 j) = bitOf (∃ i, i < 128 * a ∧ Kept (BadG G₀) i ∧ BadG G₀ i J) →
      supF G c0 c1 c2 c3 c4 n a h sup (ix2 0 j) = bitOf (∃ i, i < 128 * (a + n) ∧ Kept (BadG G₀) i ∧ BadG G₀ i J) := by
  intro n
  induction n with
  | zero => intro a h sup _ hs; exact hs
  | succ n ih =>
    intro a h sup hab hs
    unfold supF
    rw [show a + (n + 1) = a + 1 + n by omega]
    refine ih (a + 1) (by omega) _ (by omega) ?_
    rw [aStep_at, hs]
    have e : (fun i : Fin 128 => bitOf (thr < ov (rd G 128 8 (128 * a) 0 (by omega) (ix2 i 0)) (rd G 128 8 (128 * a) 0 (by omega) (ix2 i 1))
          (rd G 128 8 (128 * a) 0 (by omega) (ix2 i 2)) (rd G 128 8 (128 * a) 0 (by omega) (ix2 i 3)) (rd G 128 8 (128 * a) 0 (by omega) (ix2 i 4))
          (c0 (ix2 0 j)) (c1 (ix2 0 j)) (c2 (ix2 0 j)) (c3 (ix2 0 j)) (c4 (ix2 0 j)) ∧ 0 < rd G 128 8 (128 * a) 0 (by omega) (ix2 i 5)))
        = fun i : Fin 128 => bitOf (Kept (BadG G₀) (128 * a + i.val) ∧ BadG G₀ (128 * a + i.val) J) := by
      funext i
      have hi := i.isLt
      refine bitOf_congr ?_
      simp only [rd_geo]
      have s : ∀ k, k < 5 → geo G (128 * a + i.val) (0 + k) = geo G₀ (128 * a + i.val) k := fun k hk => by
        rw [Nat.zero_add]; exact hG.same _ _ (by omega) hk
      have s5 : geo G (128 * a + i.val) (0 + 5) = bitOf (Kept (BadG G₀) (128 * a + i.val)) := hG.kept _ (by omega)
      refine Iff.trans (and_congr (Iff.of_eq ?_) (Iff.of_eq ?_)) (and_comm (a := BadG G₀ (128 * a + i.val) J))
      · unfold BadG
        rw [← s 0 (by omega), ← s 1 (by omega), ← s 2 (by omega), ← s 3 (by omega), ← s 4 (by omega), h0, h1, h2, h3, h4]
        rfl
      · exact (congrArg (0 < ·) s5).trans (propext bitOf_pos)
    rw [e, max_marks]
    refine bitOf_congr ⟨?_, ?_⟩
    · rintro (⟨i, hi, hk⟩ | ⟨i, hk⟩)
      · exact ⟨i, by omega, hk⟩
      · exact ⟨_, by have := i.isLt; omega, hk⟩
    · rintro ⟨i, hi, hk⟩
      by_cases c : i < 128 * a
      · exact Or.inl ⟨i, c, hk⟩
      · refine Or.inr ⟨⟨i - 128 * a, by omega⟩, ?_⟩
        rw [show 128 * a + (i - 128 * a) = i by omega]
        exact hk

/-- A written column, inside. -/
theorem put_in (b : ℕ) (hb : b < 32) (w : FVec Ideal (Sh 128 1) .f32) (G : FVec Ideal (Sh 4096 8) .f32) (j : Fin 128) :
    geo (putR (rc 128 1 (128 * b) 5 (by omega)) w G) (128 * b + j.val) 5 = w (ix2 j 0) := by
  have hj := j.isLt
  unfold geo
  refine putR_at (rc 128 1 (128 * b) 5 (by omega)) w G (ix2 j 0) _ (at2_ext _ _ ?_ ?_)
  · rw [rc_emb]; exact (Nat.mod_eq_of_lt (show 128 * b + j.val < 4096 by omega)).symm
  · rw [rc_emb]; rfl

/-- A written column, outside. -/
theorem put_out (b : ℕ) (hb : b < 32) (w : FVec Ideal (Sh 128 1) .f32) (G : FVec Ideal (Sh 4096 8) .f32) (i k : ℕ) (hi : i < 4096) (hk : k < 8)
    (h : k ≠ 5 ∨ i < 128 * b) : geo (putR (rc 128 1 (128 * b) 5 (by omega)) w G) i k = geo G i k := by
  unfold geo
  refine putR_of_not _ _ _ _ fun x e => ?_
  have x1 : (x 1).val < 1 := (x 1).isLt
  have e0 := congrArg (fun y => (y 0).val) e
  have e1 := congrArg (fun y => (y 1).val) e
  simp only [rc_emb] at e0 e1
  have e0' : 128 * b + (x 0).val = i := e0.trans (Nat.mod_eq_of_lt hi)
  have e1' : 5 + (x 1).val = k := e1.trans (Nat.mod_eq_of_lt hk)
  omega

/-- What one block adds to the marks. -/
theorem blockF_upto (b : ℕ) (hb : b < 32) (hz : ∀ i, i < 4096 → geo G₀ i 6 = 0) (G : FVec Ideal (Sh 4096 8) .f32) (hG : Upto G₀ b G) :
    Upto G₀ (b + 1) (blockF b hb G (over G₀)) := by
  have hk : ∀ j : Fin 128, keepB (matB b hb G (over G₀)) (supB b hb G (over G₀)) (ix2 0 j) = bitOf (Kept (BadG G₀) (128 * b + j.val)) := by
    intro j
    refine keepB_marks _ _ (fun j => ∃ i, i < 128 * b ∧ Kept (BadG G₀) i ∧ BadG G₀ i (128 * b + j)) (fun j => Kept (BadG G₀) (128 * b + j))
      (fun i j => BadG G₀ (128 * b + i) (128 * b + j)) ?_ ?_ ?_ j
    · intro j
      have hj := j.isLt
      unfold supB
      refine (supF_marks G₀ b hb G hG (128 * b + j.val) _ _ _ _ _ j (rd_over ..) (rd_over ..) (rd_over ..) (rd_over ..) (rd_over ..) b 0 _ _ (by omega) ?_).trans ?_
      · rw [rd_over, hz _ (by omega), bitOf_false]
        rintro ⟨i, hi, -⟩
        omega
      · rw [Nat.zero_add]
    · intro i j
      have hi := i.isLt
      unfold matB
      rw [mMat_at]
      refine bitOf_congr (and_congr (Iff.of_eq ?_) Iff.rfl)
      simp only [rd_over, rd_geo]
      unfold BadG
      rw [← hG.same (128 * b + i.val) 0 (by omega) (by omega), ← hG.same (128 * b + i.val) 1 (by omega) (by omega), ← hG.same (128 * b + i.val) 2 (by omega) (by omega),
        ← hG.same (128 * b + i.val) 3 (by omega) (by omega), ← hG.same (128 * b + i.val) 4 (by omega) (by omega)]
      rfl
    · intro j
      refine (kept_block (BadG G₀) (128 * b) j.val).trans (and_congr Iff.rfl ⟨fun h i hi => h i.val hi, fun h i hi => ?_⟩)
      exact h ⟨i, by have := j.isLt; omega⟩ hi
  have hin : ∀ j : Fin 128, geo (blockF b hb G (over G₀)) (128 * b + j.val) 5 = bitOf (Kept (BadG G₀) (128 * b + j.val)) := fun j =>
    (put_in b hb _ G j).trans ((turn_marks _ j).trans (hk j))
  have hout : ∀ i k, i < 4096 → k < 8 → (k ≠ 5 ∨ i < 128 * b) → geo (blockF b hb G (over G₀)) i k = geo G i k := fun i k hi hk h =>
    put_out b hb _ G i k hi hk h
  refine ⟨fun i k hi hk => ?_, fun i hi => ?_⟩
  · rw [hout i k hi (by omega) (Or.inl (by omega))]
    exact hG.same i k hi hk
  · by_cases c : i < 128 * b
    · rw [hout i 5 (by omega) (by omega) (Or.inr c)]
      exact hG.kept i c
    · have := hin ⟨i - 128 * b, by omega⟩
      rw [show 128 * b + (i - 128 * b) = i by omega] at this
      exact this

/-- All the blocks. -/
theorem blocksF_upto (hz : ∀ i, i < 4096 → geo G₀ i 6 = 0) :
    ∀ (n b : ℕ) (h : b + n ≤ 32) (G : FVec Ideal (Sh 4096 8) .f32), Upto G₀ b G → Upto G₀ (b + n) (blocksF (over G₀) n b h G) := by
  intro n
  induction n with
  | zero => intro b h G hG; exact hG
  | succ n ih =>
    intro b h G hG
    unfold blocksF
    rw [show b + (n + 1) = b + 1 + n by omega]
    exact ih (b + 1) (by omega) _ (blockF_upto G₀ b (by omega) hz G hG)

/-- The kept column is the greedy choice. -/
theorem keepC_at (g : FVec Ideal (Sh 4096 16) .f32) (hz : ∀ i, i < 4096 → geo (geomOf g) i 6 = 0) (i : Fin 4096) :
    keepC g (ix2 i 0) = bitOf (Kept (BadG (geomOf g)) i.val) := by
  have h := blocksF_upto (geomOf g) hz 32 0 (by omega) (geomOf g) ⟨fun _ _ _ _ => rfl, fun i hi => absurd hi (by omega)⟩
  have hi := i.isLt
  unfold keepC
  rw [rd_geo, ← h.kept i.val (by omega), Nat.zero_add]
  rfl

end Cert.Nms
-- ==== Proof.GatherRows.lean ====
/-
  The host's gather of whole rows by a column of row numbers, read at one place.
-/
module

public import proofs.«01_k».proof.Proof.Rows
public import Idealize.ShloMosaic.Lib.Pointwise
public import Idealize.ShloMosaic.Lib.Pipeline.Value

@[expose] public section

noncomputable section

namespace Cert.Nms

open Idealize.ShloMosaic Idealize.SL.Sem

variable {β : Type}

/-- The dimension numbers of a gather of whole rows. -/
abbrev rowDims (N C R : ℕ) (wf : GatherDims.WF (Sh N C) (Sh R 1) (Sh R C) [1] [0] [] [0] [] 1 ![1, C]) : GatherDims (Sh N C) (Sh R 1) (Sh R C) where
  offsetDims := [1]
  collapsedSliceDims := [0]
  operandBatchingDims := []
  startIndicesBatchingDims := []
  startIndexMap := [0]
  indexVectorDim := 1
  sliceSizes := ![1, C]
  wf := wf

/-- A gathered row at a place: the row its number names, read signed and held inside the operand. -/
theorem gatherRows_at {N C R w : ℕ} (hN : 0 < N) (wf : GatherDims.WF (Sh N C) (Sh R 1) (Sh R C) [1] [0] [] [0] [] 1 ![1, C])
    (x : (Sh N C).Idx → β) (idx : IVec (Sh R 1) w) (r : Fin R) (c : Fin C) :
    Host.gather (rowDims N C R wf) x idx (ix2 r c) = x (ix2 ⟨min (idx (ix2 r 0)).toInt.toNat (N - 1), by omega⟩ c) := by
  unfold Host.gather
  congr 1
  funext a
  refine Fin.ext ?_
  show (rowDims N C R wf).start (ix2 r c) idx a + (rowDims N C R wf).batchCoord (ix2 r c) a + (rowDims N C R wf).offCoord (ix2 r c) a = _
  have hb : (rowDims N C R wf).batchCoord (ix2 r c) a = 0 := GatherDims.batchCoord_eq_zero _ _ _ (fun h => by simp at h)
  rw [hb, Nat.add_zero]
  have h01 : a = 0 ∨ a = 1 := by
    match a with
    | ⟨0, _⟩ => exact Or.inl rfl
    | ⟨1, _⟩ => exact Or.inr rfl
  rcases h01 with rfl | rfl
  · have ho : (rowDims N C R wf).offCoord (ix2 r c) 0 = 0 :=
      GatherDims.offCoord_eq_zero _ _ _ (fun h => ((GatherDims.mem_sKept _ _).mp h).1 (List.mem_singleton.mpr rfl))
    refine (congrArg (_ + ·) ho).trans ?_
    rw [Nat.add_zero]
    unfold GatherDims.start
    rw [dif_pos (show (0 : Fin 2) ∈ (rowDims N C R wf).startIndexMap from List.mem_singleton.mpr rfl)]
    have hs : (rowDims N C R wf).siIdx (ix2 r c) ⟨List.idxOf (0 : Fin 2) (rowDims N C R wf).startIndexMap,
        List.idxOf_lt_length_iff.2 (List.mem_singleton.mpr rfl)⟩ = ix2 r 0 := by
      funext b; refine Fin.ext ?_
      match b with
      | ⟨0, _⟩ => rfl
      | ⟨1, _⟩ => rfl
    exact congrArg (fun z => min (idx z).toInt.toNat (N - 1)) hs
  · have hs : (rowDims N C R wf).start (ix2 r c) idx 1 = 0 := by
      unfold GatherDims.start
      rw [dif_neg (fun h => by simp at h)]
    refine (congrArg (· + _) hs).trans ?_
    rw [Nat.zero_add]
    rfl

/-- Pieces side by side, read at a place of piece `k`, which starts at column `pre`. -/
theorem beside_at {n m w : ℕ} (xs : List ((s : Shape) × (s.Idx → β))) (h : Shape.Concatenates (xs.map (·.1)) (Sh n m) 1) (k : ℕ) (hk : k < xs.length)
    (x : (Sh n w).Idx → β) (hx : xs[k] = ⟨Sh n w, x⟩) (pre : ℕ)
    (hpre : (((xs.take k).map (·.1)).map fun s => if h : s.rank = (Sh n m).rank then s.size ((1 : Fin (Sh n m).rank).cast h.symm) else 0).sum = pre)
    (i : Fin n) (d : Fin w) (c : Fin m) (hc : pre + d.val = c.val) : concatenate (Sh n m) 1 xs h (ix2 i c) = x (ix2 i d) := by
  refine concatenate_apply_piece 1 xs h _ k hk (Sh n w) x hx rfl pre hpre (ix2 i d) (fun b hb => ?_) hc
  have h01 : b = 0 ∨ b = 1 := by
    match b with
    | ⟨0, _⟩ => exact Or.inl rfl
    | ⟨1, _⟩ => exact Or.inr rfl
  rcases h01 with rfl | rfl
  · rfl
  · exact absurd rfl hb

/-- A column of an array, read at a row. -/
theorem column_at {n m : ℕ} (k : ℕ) (x : (Sh n m).Idx → β) (h : (Sh n m).Slices ![0, k] (Sh n 1)) (i : Fin n) (c : Fin m) (hc : c.val = k) :
    extractStridedSlice (Sh n 1) ![0, k] x h (ix2 i 0) = x (ix2 i c) := by
  simp only [pointwise]
  refine congrArg x (at2_ext _ _ ?_ ?_)
  · exact Nat.zero_add _
  · exact hc.symm

end Cert.Nms
-- ==== Proof.Cols.lean ====
/-
  The decoded proposals and their boxes over the extended reals, column by column, from a gathered row.
-/
module

public import proofs.«01_k».proof.Proof.IdealOps
public import proofs.«01_k».proof.Proof.KeepAll
public import proofs.«01_k».proof.Proof.GatherRows

@[expose] public section

noncomputable section

namespace Cert.Nms

open Idealize.ShloMosaic Idealize.SL.Sem

/-- One half, as printed. -/
def hlf : EReal := Ideal.ofBits .f32 0x3F000000#32

/-- A row decoded from an anchor (first seven) and a delta (second seven). -/
def decX (a0 a3 a4 d0 : EReal) : EReal := d0 * Ideal.sqrt (a3 * a3 + a4 * a4) + a0
def decZ (a2 a5 d2 : EReal) : EReal := d2 * a5 + a2
def decW (a3 d3 : EReal) : EReal := Ideal.exp d3 * a3
def decR (a6 d6 : EReal) : EReal := d6 + a6

variable (g : FVec Ideal (Sh 4096 16) .f32) (i : Fin 4096)

/-- Column `k` of the gathered rows. -/
theorem gcol_at (k : ℕ) (c : Fin 16) (hc : c.val = k) (h : (Sh 4096 16).Slices ![0, k] (Sh 4096 1)) : gcol k g h (ix2 i 0) = g (ix2 i c) :=
  column_at k g h i c hc

/-- The decoded columns at a row. -/
theorem dec_at : dx g (ix2 i 0) = decX (g (ix2 i 0)) (g (ix2 i 3)) (g (ix2 i 4)) (g (ix2 i 8))
    ∧ dy g (ix2 i 0) = decX (g (ix2 i 1)) (g (ix2 i 3)) (g (ix2 i 4)) (g (ix2 i 9))
    ∧ dz g (ix2 i 0) = decZ (g (ix2 i 2)) (g (ix2 i 5)) (g (ix2 i 10))
    ∧ dw g (ix2 i 0) = decW (g (ix2 i 3)) (g (ix2 i 11)) ∧ dl g (ix2 i 0) = decW (g (ix2 i 4)) (g (ix2 i 12))
    ∧ dh g (ix2 i 0) = decW (g (ix2 i 5)) (g (ix2 i 13)) ∧ dr g (ix2 i 0) = decR (g (ix2 i 6)) (g (ix2 i 14)) := by
  rw [← gcol_at g i 0 0 rfl (by decide), ← gcol_at g i 1 1 rfl (by decide), ← gcol_at g i 2 2 rfl (by decide), ← gcol_at g i 3 3 rfl (by decide),
    ← gcol_at g i 4 4 rfl (by decide), ← gcol_at g i 5 5 rfl (by decide), ← gcol_at g i 6 6 rfl (by decide), ← gcol_at g i 8 8 rfl (by decide),
    ← gcol_at g i 9 9 rfl (by decide), ← gcol_at g i 10 10 rfl (by decide), ← gcol_at g i 11 11 rfl (by decide), ← gcol_at g i 12 12 rfl (by decide),
    ← gcol_at g i 13 13 rfl (by decide), ← gcol_at g i 14 14 rfl (by decide)]
  exact ⟨rfl, rfl, rfl, rfl, rfl, rfl, rfl⟩

/-- The eight pieces. -/
abbrev pieces8 (a b c d e f p q : FVec Ideal (Sh 4096 1) .f32) : List ((s : Shape) × (s.Idx → Ideal .f32)) :=
  [⟨Sh 4096 1, a⟩, ⟨Sh 4096 1, b⟩, ⟨Sh 4096 1, c⟩, ⟨Sh 4096 1, d⟩, ⟨Sh 4096 1, e⟩, ⟨Sh 4096 1, f⟩, ⟨Sh 4096 1, p⟩, ⟨Sh 4096 1, q⟩]

/-- Eight columns side by side, at a place of each. -/
theorem cols8_at (a b c d e f p q : FVec Ideal (Sh 4096 1) .f32) :
    cols8 a b c d e f p q (ix2 i 0) = a (ix2 i 0) ∧ cols8 a b c d e f p q (ix2 i 1) = b (ix2 i 0) ∧ cols8 a b c d e f p q (ix2 i 2) = c (ix2 i 0)
      ∧ cols8 a b c d e f p q (ix2 i 3) = d (ix2 i 0) ∧ cols8 a b c d e f p q (ix2 i 4) = e (ix2 i 0) ∧ cols8 a b c d e f p q (ix2 i 5) = f (ix2 i 0)
      ∧ cols8 a b c d e f p q (ix2 i 6) = p (ix2 i 0) ∧ cols8 a b c d e f p q (ix2 i 7) = q (ix2 i 0) := by
  have h : ∀ (k : ℕ) (hk : k < 8) (x : FVec Ideal (Sh 4096 1) .f32), (pieces8 a b c d e f p q)[k]'hk = ⟨Sh 4096 1, x⟩ →
      (((((pieces8 a b c d e f p q).take k).map (·.1)).map fun s : Shape =>
        if h : s.rank = (Sh 4096 8).rank then s.size ((1 : Fin (Sh 4096 8).rank).cast h.symm) else 0).sum = k) →
      cols8 a b c d e f p q (ix2 i ⟨k, hk⟩) = x (ix2 i 0) := fun k hk x hx hp =>
    beside_at (pieces8 a b c d e f p q) cat8 k hk x hx k hp i 0 ⟨k, hk⟩ rfl
  exact ⟨h 0 (by decide) a rfl rfl, h 1 (by decide) b rfl rfl, h 2 (by decide) c rfl rfl, h 3 (by decide) d rfl rfl, h 4 (by decide) e rfl rfl,
    h 5 (by decide) f rfl rfl, h 6 (by decide) p rfl rfl, h 7 (by decide) q rfl rfl⟩

/-- A column of the boxes, read by number. -/
theorem geom_col (x : FVec Ideal (Sh 4096 8) .f32) (k : Fin 8) : geo x i.val k.val = x (ix2 i k) := by
  have hi := i.isLt; have hk := k.isLt
  exact congrArg x (at2_ext _ _ (Nat.mod_eq_of_lt hi) (Nat.mod_eq_of_lt hk))

/-- The seventh column of the boxes is zero. -/
theorem geom_zero (j : ℕ) (hj : j < 4096) : geo (geomOf g) j 6 = 0 := by
  refine (geom_col ⟨j, hj⟩ (geomOf g) 6).trans (((cols8_at ⟨j, hj⟩ _ _ _ _ _ _ _ _).2.2.2.2.2.2.1).trans ?_)
  exact Ideal.ofBits_zero_f32

/-- The boxes in terms of the proposals. -/
theorem geom_at :
    geo (geomOf g) i.val 0 = propOf g (ix2 i 0) - propOf g (ix2 i 3) * hlf ∧ geo (geomOf g) i.val 1 = propOf g (ix2 i 0) + propOf g (ix2 i 3) * hlf
    ∧ geo (geomOf g) i.val 2 = propOf g (ix2 i 1) - propOf g (ix2 i 4) * hlf ∧ geo (geomOf g) i.val 3 = propOf g (ix2 i 1) + propOf g (ix2 i 4) * hlf
    ∧ geo (geomOf g) i.val 4 = propOf g (ix2 i 3) * propOf g (ix2 i 4) := by
  obtain ⟨p0, p1, p2, p3, p4, -⟩ := cols8_at i (dx g) (dy g) (dz g) (dw g) (dl g) (dh g) (dr g) (lit 4096 1 0x00000000#32)
  have e : propOf g = cols8 (dx g) (dy g) (dz g) (dw g) (dl g) (dh g) (dr g) (lit 4096 1 0x00000000#32) := rfl
  rw [e, p0, p1, p3, p4]
  obtain ⟨q0, q1, q2, q3, q4, -⟩ := cols8_at i (subf (dx g) (half (dw g))) (addf (dx g) (half (dw g))) (subf (dy g) (half (dl g))) (addf (dy g) (half (dl g)))
    (mulf (dw g) (dl g)) (lit 4096 1 0x3F800000#32) (lit 4096 1 0x00000000#32) (lit 4096 1 0x00000000#32)
  exact ⟨(geom_col i (geomOf g) 0).trans q0, (geom_col i (geomOf g) 1).trans q1, (geom_col i (geomOf g) 2).trans q2, (geom_col i (geomOf g) 3).trans q3,
    (geom_col i (geomOf g) 4).trans q4⟩

/-- The proposals at a row. -/
theorem prop_at :
    propOf g (ix2 i 0) = decX (g (ix2 i 0)) (g (ix2 i 3)) (g (ix2 i 4)) (g (ix2 i 8))
    ∧ propOf g (ix2 i 1) = decX (g (ix2 i 1)) (g (ix2 i 3)) (g (ix2 i 4)) (g (ix2 i 9))
    ∧ propOf g (ix2 i 2) = decZ (g (ix2 i 2)) (g (ix2 i 5)) (g (ix2 i 10))
    ∧ propOf g (ix2 i 3) = decW (g (ix2 i 3)) (g (ix2 i 11)) ∧ propOf g (ix2 i 4) = decW (g (ix2 i 4)) (g (ix2 i 12))
    ∧ propOf g (ix2 i 5) = decW (g (ix2 i 5)) (g (ix2 i 13)) ∧ propOf g (ix2 i 6) = decR (g (ix2 i 6)) (g (ix2 i 14)) := by
  obtain ⟨p0, p1, p2, p3, p4, p5, p6, -⟩ := cols8_at i (dx g) (dy g) (dz g) (dw g) (dl g) (dh g) (dr g) (lit 4096 1 0x00000000#32)
  obtain ⟨d0, d1, d2, d3, d4, d5, d6⟩ := dec_at g i
  exact ⟨p0.trans d0, p1.trans d1, p2.trans d2, p3.trans d3, p4.trans d4, p5.trans d5, p6.trans d6⟩

end Cert.Nms
-- ==== Proof.KernRows.lean ====
/-
  The kernel's gathered rows over the extended reals: a row of the first 4000 is the anchor and the delta that the first
  selection names.
-/
module

public import proofs.«01_k».proof.Proof.KernReads
public import proofs.«01_k».proof.Proof.Cols
public import Idealize.ShloMosaic.Lib.Pipeline.Value

@[expose] public section

noncomputable section

namespace Cert.Nms

open Idealize.ShloMosaic

/-- Whether the first is greater. -/
abbrev gtI : EReal → EReal → BitVec 1 := FloatOps.cmpfTotal (F := Ideal) (φ := .f32) .gt

/-- The selection compares as the order of the extended reals does. -/
theorem gtI_iff (a b : EReal) : gtI a b = 1#1 ↔ b < a := ogt_iff a b

/-- Where the `i`-th greatest of the scores stands. -/
def place (x : (Sv 20000).Idx → EReal) (i : Fin 4000) : Fin 20000 := spot gtI (fun i => x (at1 i)) (i.castLE (by decide))

/-- The word that names it. -/
theorem place_word (x : (Sv 20000).Idx → EReal) (h : (Sv 20000).Slices (fun _ => 0) (Sv 4000)) (i : Fin 4000) :
    (Host.topK (Sv 4000) 0 gtI x h).2 (at1 i) = BitVec.ofNat 32 (place x i).val :=
  topK_idx gtI x h (by decide) (at1 i)

/-- Two lists one after the other, at a place of the first and of the second. -/
theorem append_left {p q n : ℕ} {β : Type} (a : (Sv p).Idx → β) (b : (Sv q).Idx → β) (h : Shape.Concatenates [Sv p, Sv q] (Sv n) 0) (i : Fin p) (j : Fin n)
    (hj : j.val = i.val) : concatenate (Sv n) 0 [⟨Sv p, a⟩, ⟨Sv q, b⟩] h (at1 j) = a (at1 i) :=
  concatenate_pair_apply_left 0 a b h (at1 j) rfl (at1 i) (fun z => by match z with | ⟨0, _⟩ => exact hj.symm)
/-- A joined vector reads its second part past the first. -/
theorem append_right {p q n : ℕ} {β : Type} (a : (Sv p).Idx → β) (b : (Sv q).Idx → β) (h : Shape.Concatenates [Sv p, Sv q] (Sv n) 0) (i : Fin q) (j : Fin n)
    (hj : j.val = i.val + p) : concatenate (Sv n) 0 [⟨Sv p, a⟩, ⟨Sv q, b⟩] h (at1 j) = b (at1 i) :=
  concatenate_pair_apply_right 0 a b h (at1 j) rfl rfl (at1 i) (fun z hz => absurd (by match z with | ⟨0, _⟩ => rfl) hz) hj.symm

/-- Two tables one below the other, at a row of the first. -/
theorem below_left {p q n d : ℕ} {β : Type} (a : (Sh p d).Idx → β) (b : (Sh q d).Idx → β) (h : Shape.Concatenates [Sh p d, Sh q d] (Sh n d) 0) (i : Fin p) (j : Fin n)
    (hj : j.val = i.val) (k : Fin d) : concatenate (Sh n d) 0 [⟨Sh p d, a⟩, ⟨Sh q d, b⟩] h (ix2 j k) = a (ix2 i k) :=
  concatenate_pair_apply_left 0 a b h (ix2 j k) rfl (ix2 i k) (fun z => by
    match z with
    | ⟨0, _⟩ => exact hj.symm
    | ⟨1, _⟩ => rfl)

/-- A gathered row: the table's row that its word names. -/
theorem gatherOf_at {n N D : ℕ} [NeZero N] {β : Type} (I : (Sv n).Idx → BitVec 32) (T : (Sh N D).Idx → β) (i : Fin n) (k : Fin D) (r : Fin N) (hN : N ≤ 2 ^ 32)
    (h : I (at1 i) = BitVec.ofNat 32 r.val) : gatherOf I T (ix2 i k) = T (ix2 r k) := by
  have hr := r.isLt
  refine congrArg T (at2_ext _ _ ?_ rfl)
  show (I (at1 i)).toNat % N = r.val
  rw [h, BitVec.toNat_ofNat, Nat.mod_eq_of_lt (show r.val < 2 ^ 32 by omega)]
  exact Nat.mod_eq_of_lt hr

end Cert.Nms

namespace Cert.KernelIdeal.Nms

open Idealize.ShloMosaic Idealize.ShloMosaic.TcCoe Cert.KernelIdeal Cert.KernelIdeal.Gen
open Idealize.SL.Sem Cert.Nms

variable (m : (ℓ : Loc nD τ sig) → Buf (Elt Ideal) ℓ)

/-- The arguments as tables. -/
abbrev anch (c : Dev nD) : FVec Ideal (Sh 20000 7) .f32 := m ((c.tc : Thread nD τ).loc main_arg0)
abbrev dels (c : Dev nD) : FVec Ideal (Sh 20000 7) .f32 := m ((c.tc : Thread nD τ).loc main_arg2)
abbrev scos (c : Dev nD) : FVec Ideal (Sv 20000) .f32 := sig1 (m ((c.tc : Thread nD τ).loc main_arg1))

/-- The packed table's first columns are the anchors. -/
theorem table_anchor (c : Dev nD) (r : Fin 20096) (r' : Fin 20000) (hr : r.val = r'.val) (k : Fin 16) (k' : Fin 7) (hk : k.val = k'.val) :
    V1 m c main_v14 (ix2 r k) = anch m c (ix2 r' k') := by
  rw [V1_v14]
  refine (beside_at (n := 20096) (m := 16) (w := 7) [⟨S20096x7, V1 m c main_v9⟩, ⟨S20096x1, V1 m c main_v12⟩, ⟨S20096x7, V1 m c main_v11⟩, ⟨S20096x1, V1 m c main_v13⟩]
    concatenates_S20096x7_S20096x1_S20096x7_S20096x1_S20096x16_d1 0 (by simp) (V1 m c main_v9) rfl 0 rfl r k' k ((Nat.zero_add _).trans hk.symm)).trans ?_
  rw [V1_v9]
  exact below_left (anch m c) _ _ r' r hr k'

/-- The packed table's columns from the ninth are the deltas. -/
theorem table_delta (c : Dev nD) (r : Fin 20096) (r' : Fin 20000) (hr : r.val = r'.val) (k : Fin 16) (k' : Fin 7) (hk : k.val = 8 + k'.val) :
    V1 m c main_v14 (ix2 r k) = dels m c (ix2 r' k') := by
  rw [V1_v14]
  refine (beside_at (n := 20096) (m := 16) (w := 7) [⟨S20096x7, V1 m c main_v9⟩, ⟨S20096x1, V1 m c main_v12⟩, ⟨S20096x7, V1 m c main_v11⟩, ⟨S20096x1, V1 m c main_v13⟩]
    concatenates_S20096x7_S20096x1_S20096x7_S20096x1_S20096x16_d1 2 (by simp) (V1 m c main_v11) rfl 8 rfl r k' k hk.symm).trans ?_
  rw [V1_v11]
  exact below_left (dels m c) _ _ r' r hr k'

/-- A row number of the first 4000. -/
theorem row_word (c : Dev nD) (i : Fin 4000) (i' : Fin 4096) (hi : i'.val = i.val) : V1 m c main_v18 (at1 i') = BitVec.ofNat 32 (place (scos m c) i).val := by
  rw [V1_rows]
  refine (append_left _ _ _ i i' hi).trans ?_
  rw [V1_indices]
  exact place_word _ _ i

/-- A gathered row of the first 4000 is the table's row at its place. -/
theorem gath_row (c : Dev nD) (i : Fin 4000) (i' : Fin 4096) (hi : i'.val = i.val) (r : Fin 20096) (hr : r.val = (place (scos m c) i).val) (k : Fin 16) :
    gath (V1 m) c (ix2 i' k) = V1 m c main_v14 (ix2 r k) :=
  gatherOf_at (V1 m c main_v18) (V1 m c main_v14) i' k r (by norm_num) ((row_word m c i i' hi).trans (congrArg _ hr.symm))

/-- The anchor and the delta in a gathered row of the first 4000. -/
theorem gath_anchor (c : Dev nD) (i : Fin 4000) (i' : Fin 4096) (hi : i'.val = i.val) (k : Fin 16) (k' : Fin 7) (hk : k.val = k'.val) :
    gath (V1 m) c (ix2 i' k) = anch m c (ix2 (place (scos m c) i) k') :=
  (gath_row m c i i' hi ((place (scos m c) i).castLE (by norm_num)) (Fin.val_castLE _ _) k).trans (table_anchor m c _ _ (Fin.val_castLE _ _) k k' hk)
/-- The gathered regressions of a row are those at the place selected. -/
theorem gath_delta (c : Dev nD) (i : Fin 4000) (i' : Fin 4096) (hi : i'.val = i.val) (k : Fin 16) (k' : Fin 7) (hk : k.val = 8 + k'.val) :
    gath (V1 m) c (ix2 i' k) = dels m c (ix2 (place (scos m c) i) k') :=
  (gath_row m c i i' hi ((place (scos m c) i).castLE (by norm_num)) (Fin.val_castLE _ _) k).trans (table_delta m c _ _ (Fin.val_castLE _ _) k k' hk)

/-- Both in one form. -/
theorem gath_both (c : Dev nD) (i : Fin 4000) (i' : Fin 4096) (hi : i'.val = i.val) :
    (∀ k : Fin 7, gath (V1 m) c (ix2 i' (k.castLE (by decide))) = anch m c (ix2 (place (scos m c) i) k))
    ∧ ∀ k : Fin 7, gath (V1 m) c (ix2 i' ⟨8 + k.val, by omega⟩) = dels m c (ix2 (place (scos m c) i) k) :=
  ⟨fun k => gath_anchor m c i i' hi _ k rfl, fun k => gath_delta m c i i' hi _ k rfl⟩

end Cert.KernelIdeal.Nms
-- ==== Proof.RefReads.lean ====
/-
  What the reference's buffers hold before its loop, in terms of one another.
-/
module

public import proofs.«01_k».proof.Proof.RefRun
public import Idealize.ShloMosaic.Lib.StableHlo.RunRead

@[expose] public section

noncomputable section

namespace Cert.ReferenceIdeal.Nms

open Idealize.ShloMosaic Idealize.ShloMosaic.TcCoe Cert.ReferenceIdeal Cert.ReferenceIdeal.Gen Cert.ReferenceIdeal.Value
open Idealize.SL.Sem Idealize.ShloMosaic.StableHlo

variable {F : FTy → Type} [FloatOps F] (m : (ℓ : Loc nD τ sig) → Buf (Elt F) ℓ)

/-- The contents at the loop's entry. -/
abbrev X (c : Dev nD) : Valuation τ sig (Elt F) := entryContents preI m c

/-- The scores. -/
def sig1 (x : FVec F S20000 .f32) : FVec F S20000 .f32 :=
  Host.divf (broadcastInDim S20000 ![] bcast_S_S20000 (constant (F := F) S_ .f32 0x3F800000#32))
    (addf (broadcastInDim S20000 ![] bcast_S_S20000 (constant (F := F) S_ .f32 0x3F800000#32)) (Host.exp (Host.negf x)))

/-- Row numbers, those below zero counted from the end. -/
def wrap1 (x : IVec S4000 32) : IVec S4000x1 32 :=
  broadcastInDim S4000x1 ![0] bcast_S4000_S4000x1_0
    (select (cmpi .slt x (broadcastInDim S4000 ![] bcast_S_S4000 (constantI S_ 32 0#32)))
      (addi x (broadcastInDim S4000 ![] bcast_S_S4000 (constantI S_ 32 20000#32))) x)

/-- Column `k` of the rows. -/
def colV (k : ℕ) (h : S4000x7.Slices ![0, k] S4000x1) (A : FVec F S4000x7 .f32) : FVec F S4000 .f32 :=
  shapeCast S4000 (extractStridedSlice S4000x1 ![0, k] A h) shapeCasts_S4000x1_S4000

/-- The diagonals of the anchors' bases. -/
def diagV (A : FVec F S4000x7 .f32) : FVec F S4000 .f32 :=
  Host.sqrt (addf (mulf (colV 3 slices_S4000x7_S4000x1_0_3 A) (colV 3 slices_S4000x7_S4000x1_0_3 A))
    (mulf (colV 4 slices_S4000x7_S4000x1_0_4 A) (colV 4 slices_S4000x7_S4000x1_0_4 A)))

/-- A vector as a column. -/
abbrev up (v : FVec F S4000 .f32) : FVec F S4000x1 .f32 := broadcastInDim S4000x1 ![0] bcast_S4000_S4000x1_0 v

/-- Seven columns side by side. -/
def beside7 (a b c d e f g : FVec F S4000 .f32) : FVec F S4000x7 .f32 :=
  concatenate S4000x7 1 [⟨S4000x1, up a⟩, ⟨S4000x1, up b⟩, ⟨S4000x1, up c⟩, ⟨S4000x1, up d⟩, ⟨S4000x1, up e⟩, ⟨S4000x1, up f⟩, ⟨S4000x1, up g⟩]
    concatenates_S4000x1_S4000x1_S4000x1_S4000x1_S4000x1_S4000x1_S4000x1_S4000x7_d1

/-- The decoded proposals, from the deltas `D` and the anchors `A`. -/
def propV (D A : FVec F S4000x7 .f32) : FVec F S4000x7 .f32 :=
  beside7 (addf (mulf (colV 0 slices_S4000x7_S4000x1_0_0 D) (diagV A)) (colV 0 slices_S4000x7_S4000x1_0_0 A))
    (addf (mulf (colV 1 slices_S4000x7_S4000x1_0_1 D) (diagV A)) (colV 1 slices_S4000x7_S4000x1_0_1 A))
    (addf (mulf (colV 2 slices_S4000x7_S4000x1_0_2 D) (colV 5 slices_S4000x7_S4000x1_0_5 A)) (colV 2 slices_S4000x7_S4000x1_0_2 A))
    (mulf (Host.exp (colV 3 slices_S4000x7_S4000x1_0_3 D)) (colV 3 slices_S4000x7_S4000x1_0_3 A))
    (mulf (Host.exp (colV 4 slices_S4000x7_S4000x1_0_4 D)) (colV 4 slices_S4000x7_S4000x1_0_4 A))
    (mulf (Host.exp (colV 5 slices_S4000x7_S4000x1_0_5 D)) (colV 5 slices_S4000x7_S4000x1_0_5 A))
    (addf (colV 6 slices_S4000x7_S4000x1_0_6 D) (colV 6 slices_S4000x7_S4000x1_0_6 A))

/-- Half a size. -/
abbrev halfV (v : FVec F S4000 .f32) : FVec F S4000 .f32 := mulf v (broadcastInDim S4000 ![] bcast_S_S4000 (constant (F := F) S_ .f32 0x3F000000#32))

/-- A vector down the rows, and along the columns, of the square. -/
abbrev down (v : FVec F S4000 .f32) : FVec F S4000x4000 .f32 := broadcastInDim S4000x4000 ![0, 1] bcast_S4000x1_S4000x4000_0_1 (broadcastInDim S4000x1 ![0] bcast_S4000_S4000x1_0 v)
abbrev along (v : FVec F S4000 .f32) : FVec F S4000x4000 .f32 := broadcastInDim S4000x4000 ![0, 1] bcast_S1x4000_S4000x4000_0_1 (broadcastInDim S1x4000 ![1] bcast_S4000_S1x4000_1 v)

/-- One value over the square. -/
abbrev all (b : BitVec 32) : FVec F S4000x4000 .f32 := broadcastInDim S4000x4000 ![] bcast_S_S4000x4000 (constant (F := F) S_ .f32 b)

/-- Where the boxes of `a` to `b` meet along one axis, at least zero. -/
abbrev meet (a b : FVec F S4000 .f32) : FVec F S4000x4000 .f32 :=
  maximumf (all 0x00000000#32) (subf (minimumf (down b) (along b)) (maximumf (down a) (along a)))

/-- All overlaps, from lower and upper bounds and areas. -/
def iouV (x0 x1 y0 y1 a : FVec F S4000 .f32) : FVec F S4000x4000 .f32 :=
  Host.divf (mulf (meet x0 x1) (meet y0 y1)) (maximumf (subf (addf (down a) (along a)) (mulf (meet x0 x1) (meet y0 y1))) (all 0x322BCC77#32))

/-- The kept scores and their places. -/
theorem X_values (c : Dev nD) : X m c main_values = (Host.topK S4000 0 (FloatOps.cmpfTotal .gt) (sig1 (m ((c.tc : Thread nD τ).loc main_arg1))) sliceFits_S20000_S4000).1 := by
  simp only [entryContents, afterL_cons, afterL_nil]
  after_reads_simp
  rfl

/-- Before the loop: the places of the largest scores. -/
theorem X_indices (c : Dev nD) : X m c main_indices = (Host.topK S4000 0 (FloatOps.cmpfTotal .gt) (sig1 (m ((c.tc : Thread nD τ).loc main_arg1))) sliceFits_S20000_S4000).2 := by
  simp only [entryContents, afterL_cons, afterL_nil]
  after_reads_simp
  rfl

set_option maxRecDepth 100000 in
/-- The gathered deltas and anchors. -/
theorem X_v12 (c : Dev nD) : X m c main_v12 = Host.gather gather_S20000x7_S4000x1_S4000x7_1_0_n_n_0_1_17 (m ((c.tc : Thread nD τ).loc main_arg2)) (wrap1 (X m c main_indices)) := by
  simp only [entryContents, afterL_cons, afterL_nil]
  after_reads_simp
  rfl

/-- Before the loop: the anchors at those places. -/
theorem X_v19 (c : Dev nD) : X m c main_v19 = Host.gather gather_S20000x7_S4000x1_S4000x7_1_0_n_n_0_1_17 (m ((c.tc : Thread nD τ).loc main_arg0)) (wrap1 (X m c main_indices)) := by
  simp only [entryContents, afterL_cons, afterL_nil]
  after_reads_simp
  rfl

/-- The first stretch cut in two. -/
theorem cutAt (n : ℕ) (V : Valuation τ sig (Elt F)) : after hostOps0 V = after (hostOps0.drop n) (after (hostOps0.take n) V) := by
  rw [← after_append, List.take_append_drop]

set_option maxRecDepth 100000 in
/-- The proposals. -/
theorem X_v72 (c : Dev nD) : X m c main_v72 = propV (X m c main_v12) (X m c main_v19) := by
  simp only [entryContents, afterL_cons, afterL_nil]
  rw [cutAt 28]
  generalize after (List.take 28 hostOps0) (launchContents m c) = V'
  simp only [hostOps0, List.drop_succ_cons, List.drop_zero]
  after_reads_simp
  rfl

set_option maxRecDepth 100000 in
/-- A bound or the area of the boxes. -/
theorem X_v83 (c : Dev nD) : X m c main_v83 = subf (colV 0 slices_S4000x7_S4000x1_0_0 (X m c main_v72)) (halfV (colV 3 slices_S4000x7_S4000x1_0_3 (X m c main_v72))) := by
  simp only [entryContents, afterL_cons, afterL_nil]
  rw [cutAt 81]
  generalize after (List.take 81 hostOps0) (launchContents m c) = V'
  simp only [hostOps0, List.drop_succ_cons, List.drop_zero]
  after_reads_simp
  rfl

set_option maxRecDepth 100000 in
/-- A bound or the area of the boxes. -/
theorem X_v86 (c : Dev nD) : X m c main_v86 = addf (colV 0 slices_S4000x7_S4000x1_0_0 (X m c main_v72)) (halfV (colV 3 slices_S4000x7_S4000x1_0_3 (X m c main_v72))) := by
  simp only [entryContents, afterL_cons, afterL_nil]
  rw [cutAt 81]
  generalize after (List.take 81 hostOps0) (launchContents m c) = V'
  simp only [hostOps0, List.drop_succ_cons, List.drop_zero]
  after_reads_simp
  rfl

set_option maxRecDepth 100000 in
/-- A bound or the area of the boxes. -/
theorem X_v89 (c : Dev nD) : X m c main_v89 = subf (colV 1 slices_S4000x7_S4000x1_0_1 (X m c main_v72)) (halfV (colV 4 slices_S4000x7_S4000x1_0_4 (X m c main_v72))) := by
  simp only [entryContents, afterL_cons, afterL_nil]
  rw [cutAt 81]
  generalize after (List.take 81 hostOps0) (launchContents m c) = V'
  simp only [hostOps0, List.drop_succ_cons, List.drop_zero]
  after_reads_simp
  rfl

set_option maxRecDepth 100000 in
/-- A bound or the area of the boxes. -/
theorem X_v92 (c : Dev nD) : X m c main_v92 = addf (colV 1 slices_S4000x7_S4000x1_0_1 (X m c main_v72)) (halfV (colV 4 slices_S4000x7_S4000x1_0_4 (X m c main_v72))) := by
  simp only [entryContents, afterL_cons, afterL_nil]
  rw [cutAt 81]
  generalize after (List.take 81 hostOps0) (launchContents m c) = V'
  simp only [hostOps0, List.drop_succ_cons, List.drop_zero]
  after_reads_simp
  rfl

set_option maxRecDepth 100000 in
/-- A bound or the area of the boxes. -/
theorem X_v93 (c : Dev nD) : X m c main_v93 = mulf (colV 3 slices_S4000x7_S4000x1_0_3 (X m c main_v72)) (colV 4 slices_S4000x7_S4000x1_0_4 (X m c main_v72)) := by
  simp only [entryContents, afterL_cons, afterL_nil]
  rw [cutAt 81]
  generalize after (List.take 81 hostOps0) (launchContents m c) = V'
  simp only [hostOps0, List.drop_succ_cons, List.drop_zero]
  after_reads_simp
  rfl

set_option maxRecDepth 100000 in
/-- The overlaps. -/
theorem X_iou (c : Dev nD) : X m c main_v130_0 = iouV (X m c main_v83) (X m c main_v86) (X m c main_v89) (X m c main_v92) (X m c main_v93) := by
  simp only [entryContents, afterL_cons, afterL_nil]
  rw [cutAt 106]
  generalize after (List.take 106 hostOps0) (launchContents m c) = V'
  simp only [hostOps0, List.drop_succ_cons, List.drop_zero]
  after_reads_simp
  rfl

/-- The places, the counters and the marks at the loop's entry. -/
theorem X_iota (c : Dev nD) : X m c main_v130_1 = iotaInDim S4000 32 0 := by
  simp only [entryContents, afterL_cons, afterL_nil]
  after_reads_simp
  rfl

/-- Before the loop the counter is zero. -/
theorem X_i (c : Dev nD) : X m c main_v130_3 = fun _ => (0#32 : BitVec 32) := by
  simp only [entryContents, afterL_cons, afterL_nil]
  after_reads_simp
  rfl

/-- Before the loop every keep bit is set. -/
theorem X_keep (c : Dev nD) : X m c main_v130_4 = fun _ => (1#1 : BitVec 1) := by
  simp only [entryContents, afterL_cons, afterL_nil]
  after_reads_simp
  rfl

end Cert.ReferenceIdeal.Nms
-- ==== Proof.RefProp.lean ====
/-
  The reference's proposals and overlaps over the extended reals, each read at one place.
-/
module

public import proofs.«01_k».proof.Proof.RefReads
public import proofs.«01_k».proof.Proof.Cols

@[expose] public section

noncomputable section

namespace Cert.ReferenceIdeal.Nms

open Idealize.ShloMosaic Idealize.ShloMosaic.TcCoe Cert.ReferenceIdeal Cert.ReferenceIdeal.Gen Cert.ReferenceIdeal.Value
open Idealize.SL.Sem Cert.Nms

/-- Column `k` of the rows, at a row. -/
theorem colV_at (k : ℕ) (h : S4000x7.Slices ![0, k] S4000x1) (A : FVec Ideal S4000x7 .f32) (i : Fin 4000) (c : Fin 7) (hc : c.val = k) :
    colV k h A (at1 i) = A (ix2 i c) := by
  have e : colV k h A (at1 i) = extractStridedSlice (Sh 4000 1) ![0, k] A h (ix2 i 0) := by
    unfold colV
    show shapeCast S4000 (extractStridedSlice S4000x1 ![0, k] A h) shapeCasts_S4000x1_S4000 (ix1 i) = _
    simp only [pointwise]
  exact e.trans (column_at k A h i c hc)

/-- A vector as a column, at a row. -/
theorem up_at (v : FVec Ideal S4000 .f32) (i : Fin 4000) : up v (ix2 i 0) = v (at1 i) := by
  simp only [up, pointwise]; simp; exact congrArg v (at1_ext _ _ rfl)

/-- The seven pieces. -/
abbrev pieces7 (a b c d e f g : FVec Ideal S4000 .f32) : List ((s : Shape) × (s.Idx → Ideal .f32)) :=
  [⟨S4000x1, up a⟩, ⟨S4000x1, up b⟩, ⟨S4000x1, up c⟩, ⟨S4000x1, up d⟩, ⟨S4000x1, up e⟩, ⟨S4000x1, up f⟩, ⟨S4000x1, up g⟩]

/-- Seven columns side by side, at a place of each. -/
theorem beside7_at (a b c d e f g : FVec Ideal S4000 .f32) (i : Fin 4000) :
    beside7 a b c d e f g (ix2 i 0) = a (at1 i) ∧ beside7 a b c d e f g (ix2 i 1) = b (at1 i) ∧ beside7 a b c d e f g (ix2 i 2) = c (at1 i)
      ∧ beside7 a b c d e f g (ix2 i 3) = d (at1 i) ∧ beside7 a b c d e f g (ix2 i 4) = e (at1 i) ∧ beside7 a b c d e f g (ix2 i 5) = f (at1 i)
      ∧ beside7 a b c d e f g (ix2 i 6) = g (at1 i) := by
  have h : ∀ (k : ℕ) (hk : k < 7) (x : FVec Ideal S4000 .f32), (pieces7 a b c d e f g)[k]'hk = ⟨Sh 4000 1, up x⟩ →
      (((((pieces7 a b c d e f g).take k).map (·.1)).map fun s : Shape =>
        if h : s.rank = (Sh 4000 7).rank then s.size ((1 : Fin (Sh 4000 7).rank).cast h.symm) else 0).sum = k) →
      beside7 a b c d e f g (ix2 i ⟨k, hk⟩) = x (at1 i) := fun k hk x hx hp =>
    (beside_at (pieces7 a b c d e f g) concatenates_S4000x1_S4000x1_S4000x1_S4000x1_S4000x1_S4000x1_S4000x1_S4000x7_d1 k hk (up x) hx k hp i 0 ⟨k, hk⟩ rfl).trans (up_at x i)
  exact ⟨h 0 (by decide) a rfl rfl, h 1 (by decide) b rfl rfl, h 2 (by decide) c rfl rfl, h 3 (by decide) d rfl rfl, h 4 (by decide) e rfl rfl,
    h 5 (by decide) f rfl rfl, h 6 (by decide) g rfl rfl⟩

/-- The decoded proposals at a row. -/
theorem propV_at (D A : FVec Ideal S4000x7 .f32) (i : Fin 4000) :
    propV D A (ix2 i 0) = decX (A (ix2 i 0)) (A (ix2 i 3)) (A (ix2 i 4)) (D (ix2 i 0))
    ∧ propV D A (ix2 i 1) = decX (A (ix2 i 1)) (A (ix2 i 3)) (A (ix2 i 4)) (D (ix2 i 1))
    ∧ propV D A (ix2 i 2) = decZ (A (ix2 i 2)) (A (ix2 i 5)) (D (ix2 i 2))
    ∧ propV D A (ix2 i 3) = decW (A (ix2 i 3)) (D (ix2 i 3)) ∧ propV D A (ix2 i 4) = decW (A (ix2 i 4)) (D (ix2 i 4))
    ∧ propV D A (ix2 i 5) = decW (A (ix2 i 5)) (D (ix2 i 5)) ∧ propV D A (ix2 i 6) = decR (A (ix2 i 6)) (D (ix2 i 6)) := by
  obtain ⟨p0, p1, p2, p3, p4, p5, p6⟩ := beside7_at
    (addf (mulf (colV 0 slices_S4000x7_S4000x1_0_0 D) (diagV A)) (colV 0 slices_S4000x7_S4000x1_0_0 A))
    (addf (mulf (colV 1 slices_S4000x7_S4000x1_0_1 D) (diagV A)) (colV 1 slices_S4000x7_S4000x1_0_1 A))
    (addf (mulf (colV 2 slices_S4000x7_S4000x1_0_2 D) (colV 5 slices_S4000x7_S4000x1_0_5 A)) (colV 2 slices_S4000x7_S4000x1_0_2 A))
    (mulf (Host.exp (colV 3 slices_S4000x7_S4000x1_0_3 D)) (colV 3 slices_S4000x7_S4000x1_0_3 A))
    (mulf (Host.exp (colV 4 slices_S4000x7_S4000x1_0_4 D)) (colV 4 slices_S4000x7_S4000x1_0_4 A))
    (mulf (Host.exp (colV 5 slices_S4000x7_S4000x1_0_5 D)) (colV 5 slices_S4000x7_S4000x1_0_5 A))
    (addf (colV 6 slices_S4000x7_S4000x1_0_6 D) (colV 6 slices_S4000x7_S4000x1_0_6 A)) i
  rw [← colV_at 0 slices_S4000x7_S4000x1_0_0 A i 0 rfl, ← colV_at 1 slices_S4000x7_S4000x1_0_1 A i 1 rfl, ← colV_at 2 slices_S4000x7_S4000x1_0_2 A i 2 rfl,
    ← colV_at 3 slices_S4000x7_S4000x1_0_3 A i 3 rfl, ← colV_at 4 slices_S4000x7_S4000x1_0_4 A i 4 rfl, ← colV_at 5 slices_S4000x7_S4000x1_0_5 A i 5 rfl,
    ← colV_at 6 slices_S4000x7_S4000x1_0_6 A i 6 rfl,
    ← colV_at 0 slices_S4000x7_S4000x1_0_0 D i 0 rfl, ← colV_at 1 slices_S4000x7_S4000x1_0_1 D i 1 rfl, ← colV_at 2 slices_S4000x7_S4000x1_0_2 D i 2 rfl,
    ← colV_at 3 slices_S4000x7_S4000x1_0_3 D i 3 rfl, ← colV_at 4 slices_S4000x7_S4000x1_0_4 D i 4 rfl, ← colV_at 5 slices_S4000x7_S4000x1_0_5 D i 5 rfl,
    ← colV_at 6 slices_S4000x7_S4000x1_0_6 D i 6 rfl]
  exact ⟨p0, p1, p2, p3, p4, p5, p6⟩

/-- The overlaps, at a place. -/
theorem iouV_at (x0 x1 y0 y1 a : FVec Ideal S4000 .f32) (i j : Fin 4000) :
    iouV x0 x1 y0 y1 a (ix2 i j)
      = ov (x0 (at1 i)) (x1 (at1 i)) (y0 (at1 i)) (y1 (at1 i)) (a (at1 i)) (x0 (at1 j)) (x1 (at1 j)) (y0 (at1 j)) (y1 (at1 j)) (a (at1 j)) := by
  have hd : ∀ v : FVec Ideal S4000 .f32, down v (ix2 i j) = v (at1 i) := by
    intro v; simp only [down, pointwise]; simp; exact congrArg v (at1_ext _ _ rfl)
  have ha : ∀ v : FVec Ideal S4000 .f32, along v (ix2 i j) = v (at1 j) := by
    intro v; simp only [along, pointwise]; simp; exact congrArg v (at1_ext _ _ rfl)
  have hc : ∀ b : BitVec 32, all (F := Ideal) b (ix2 i j) = Ideal.ofBits .f32 b := by
    intro b; simp only [all, pointwise]
  have h : iouV x0 x1 y0 y1 a (ix2 i j) = Ideal.div
      (max (all (F := Ideal) 0x00000000#32 (ix2 i j)) (min (down x1 (ix2 i j)) (along x1 (ix2 i j)) - max (down x0 (ix2 i j)) (along x0 (ix2 i j)))
        * max (all (F := Ideal) 0x00000000#32 (ix2 i j)) (min (down y1 (ix2 i j)) (along y1 (ix2 i j)) - max (down y0 (ix2 i j)) (along y0 (ix2 i j))))
      (max (down a (ix2 i j) + along a (ix2 i j) - max (all (F := Ideal) 0x00000000#32 (ix2 i j)) (min (down x1 (ix2 i j)) (along x1 (ix2 i j)) - max (down x0 (ix2 i j)) (along x0 (ix2 i j)))
        * max (all (F := Ideal) 0x00000000#32 (ix2 i j)) (min (down y1 (ix2 i j)) (along y1 (ix2 i j)) - max (down y0 (ix2 i j)) (along y0 (ix2 i j))))
        (all (F := Ideal) 0x322BCC77#32 (ix2 i j))) := rfl
  rw [h]
  simp only [hd, ha, hc, Ideal.ofBits_zero_f32]
  rfl

/-- The reference's overlap of two rows of the proposals `P`. -/
def ovP (P : FVec Ideal S4000x7 .f32) (i j : Fin 4000) : EReal :=
  ov (P (ix2 i 0) - P (ix2 i 3) * hlf) (P (ix2 i 0) + P (ix2 i 3) * hlf) (P (ix2 i 1) - P (ix2 i 4) * hlf) (P (ix2 i 1) + P (ix2 i 4) * hlf) (P (ix2 i 3) * P (ix2 i 4))
    (P (ix2 j 0) - P (ix2 j 3) * hlf) (P (ix2 j 0) + P (ix2 j 3) * hlf) (P (ix2 j 1) - P (ix2 j 4) * hlf) (P (ix2 j 1) + P (ix2 j 4) * hlf) (P (ix2 j 3) * P (ix2 j 4))

variable (m : (ℓ : Loc nD τ sig) → Buf (Elt Ideal) ℓ)

/-- The lower bounds, the upper bounds and the areas of the boxes of `P`, at a row. -/
theorem lo_at (P : FVec Ideal S4000x7 .f32) (k l : ℕ) (h : S4000x7.Slices ![0, k] S4000x1) (h' : S4000x7.Slices ![0, l] S4000x1) (a b : Fin 7) (ha : a.val = k)
    (hb : b.val = l) (i : Fin 4000) : subf (colV k h P) (halfV (colV l h' P)) (at1 i) = P (ix2 i a) - P (ix2 i b) * hlf := by
  rw [← colV_at k h P i a ha, ← colV_at l h' P i b hb]; rfl
/-- The upper edge of a box, entry by entry. -/
theorem hi_at (P : FVec Ideal S4000x7 .f32) (k l : ℕ) (h : S4000x7.Slices ![0, k] S4000x1) (h' : S4000x7.Slices ![0, l] S4000x1) (a b : Fin 7) (ha : a.val = k)
    (hb : b.val = l) (i : Fin 4000) : addf (colV k h P) (halfV (colV l h' P)) (at1 i) = P (ix2 i a) + P (ix2 i b) * hlf := by
  rw [← colV_at k h P i a ha, ← colV_at l h' P i b hb]; rfl
/-- The area of a box, entry by entry. -/
theorem ar_at (P : FVec Ideal S4000x7 .f32) (k l : ℕ) (h : S4000x7.Slices ![0, k] S4000x1) (h' : S4000x7.Slices ![0, l] S4000x1) (a b : Fin 7) (ha : a.val = k)
    (hb : b.val = l) (i : Fin 4000) : mulf (colV k h P) (colV l h' P) (at1 i) = P (ix2 i a) * P (ix2 i b) := by
  rw [← colV_at k h P i a ha, ← colV_at l h' P i b hb]; rfl

/-- The overlaps at the loop's entry. -/
theorem X_iou_at (c : Dev nD) (i j : Fin 4000) : X m c main_v130_0 (ix2 i j) = ovP (X m c main_v72) i j := by
  rw [X_iou, X_v83, X_v86, X_v89, X_v92, X_v93]
  generalize X m c main_v72 = P
  refine (iouV_at _ _ _ _ _ i j).trans ?_
  rw [lo_at P 0 3 _ _ 0 3 rfl rfl, hi_at P 0 3 _ _ 0 3 rfl rfl, lo_at P 1 4 _ _ 1 4 rfl rfl, hi_at P 1 4 _ _ 1 4 rfl rfl, ar_at P 3 4 _ _ 3 4 rfl rfl,
    lo_at P 0 3 _ _ 0 3 rfl rfl, hi_at P 0 3 _ _ 0 3 rfl rfl, lo_at P 1 4 _ _ 1 4 rfl rfl, hi_at P 1 4 _ _ 1 4 rfl rfl, ar_at P 3 4 _ _ 3 4 rfl rfl]
  rfl

end Cert.ReferenceIdeal.Nms
-- ==== Proof.RefLoop.lean ====
/-
  The reference's loop over the extended reals: after all its trips the marks are the greedy selection under its overlaps.
-/
module

public import proofs.«01_k».proof.Proof.RefProp
public import Idealize.ShloMosaic.Lib.DynamicIndex

@[expose] public section

noncomputable section

namespace Cert.ReferenceIdeal.Nms

open Idealize.ShloMosaic Idealize.ShloMosaic.TcCoe Cert.ReferenceIdeal Cert.ReferenceIdeal.Gen Cert.ReferenceIdeal.Value
open Idealize.SL.Sem Cert.Nms

/-- A counter, counted from the end when below zero. -/
abbrev wrapK (n : IVec S_ 32) : IVec S_ 32 := select (cmpi .slt n (constantI S_ 32 0#32)) (addi n (constantI S_ 32 4000#32)) n

/-- Row `n` of the square. -/
def rowOf (U : FVec Ideal S4000x4000 .f32) (n : IVec S_ 32) : FVec Ideal S4000 .f32 :=
  shapeCast S4000 (Host.dynamicSlice S1x4000 U (fun k => (((![wrapK n, wrapK (constantI S_ 32 0#32)] : Fin 2 → (⟨S_, .i32⟩ : BufTy).Contents (Elt Ideal))) k
    (Shape.Idx.first h_S_)).toInt) sliceFits_S4000x4000_S1x4000) shapeCasts_S1x4000_S4000

/-- Mark `n`. -/
def markOf (K : IVec S4000 1) (n : IVec S_ 32) : IVec S_ 1 :=
  shapeCast S_ (Host.dynamicSlice S1 K (fun k => (((![wrapK n] : Fin 1 → (⟨S_, .i32⟩ : BufTy).Contents (Elt Ideal))) k
    (Shape.Idx.first h_S_)).toInt) sliceFits_S4000_S1) shapeCasts_S1_S_

/-- The marks after a trip. -/
def tripKeep (U : FVec Ideal S4000x4000 .f32) (I : IVec S4000 32) (n : IVec S_ 32) (K : IVec S4000 1) : IVec S4000 1 :=
  andi K (noti (andi (andi (cmpf .ogt (rowOf U n) (broadcastInDim S4000 ![] bcast_S_S4000 (constant S_ .f32 0x3F333333#32)))
    (cmpi .sgt I (broadcastInDim S4000 ![] bcast_S_S4000 n))) (broadcastInDim S4000 ![] bcast_S_S4000 (markOf K n))))

/-- What one turn of the loop does to the keep bits. -/
theorem step_keep (V0 : Valuation τ sig (Elt Ideal)) : step_main_v130_4 V0
    = tripKeep (V0 (Proc.devRef .tc main_v130_0)) (V0 (Proc.devRef .tc main_v130_1)) (V0 (Proc.devRef .tc main_v130_3)) (V0 (Proc.devRef .tc main_v130_4)) := rfl

/-- The row the counter names, at a place. -/
theorem rowOf_at (U : FVec Ideal S4000x4000 .f32) (k : ℕ) (hk : k < 4000) (j : Fin 4000) :
    rowOf U (constantI S_ 32 (BitVec.ofNat 32 k)) (at1 j) = U (ix2 ⟨k, hk⟩ j) := by
  unfold rowOf
  rw [Host.dynamicSlice_eq_extractStridedSlice S1x4000 U _ ![k, 0] sliceFits_S4000x4000_S1x4000
    ⟨rfl, fun a => by match a with
      | ⟨0, _⟩ => show k + 1 ≤ 4000; omega
      | ⟨1, _⟩ => show 0 + 4000 ≤ 4000; omega⟩
    (fun a => by match a with
      | ⟨0, _⟩ => exact toInt_wrap_ofNat k (by omega)
      | ⟨1, _⟩ => exact toInt_wrap_ofNat (s := S_) (d := constantI S_ 32 4000#32) (i := Shape.Idx.first h_S_) 0 (by omega))]
  show shapeCast S4000 _ shapeCasts_S1x4000_S4000 (ix1 j) = _
  simp only [pointwise]
  exact congrArg U (at2_ext _ _ (Nat.add_zero _) (Nat.zero_add _))

/-- The mark the counter names. -/
theorem markOf_at (K : IVec S4000 1) (k : ℕ) (hk : k < 4000) (z : S_.Idx) :
    markOf K (constantI S_ 32 (BitVec.ofNat 32 k)) z = K (at1 ⟨k, hk⟩) := by
  unfold markOf
  rw [Host.dynamicSlice_eq_extractStridedSlice S1 K _ ![k] sliceFits_S4000_S1
    ⟨rfl, fun a => by match a with
      | ⟨0, _⟩ => show k + 1 ≤ 4000; omega⟩
    (fun a => by match a with
      | ⟨0, _⟩ => exact toInt_wrap_ofNat k (by omega))]
  unfold shapeCast extractStridedSlice
  refine congrArg K (at1_ext _ _ ?_)
  show k + _ = k
  have : ∀ y : S1.Idx, (y 0).val = 0 := fun y => by have := (y 0).isLt; change (y 0).val < 1 at this; omega
  exact (congrArg (k + ·) (this _)).trans (Nat.add_zero k)

/-- A mark after a trip. -/
theorem tripKeep_at (U : FVec Ideal S4000x4000 .f32) (K : IVec S4000 1) (k : ℕ) (hk : k < 4000) (j : Fin 4000) :
    tripKeep U (iotaInDim S4000 32 0) (constantI S_ 32 (BitVec.ofNat 32 k)) K (at1 j) = 1#1
      ↔ K (at1 j) = 1#1 ∧ ¬ (thr < U (ix2 ⟨k, hk⟩ j) ∧ k < j.val ∧ K (at1 ⟨k, hk⟩) = 1#1) := by
  have h : tripKeep U (iotaInDim S4000 32 0) (constantI S_ 32 (BitVec.ofNat 32 k)) K (at1 j)
      = K (at1 j) &&& ~~~ ((Ideal.cmp .ogt (rowOf U (constantI S_ 32 (BitVec.ofNat 32 k)) (at1 j)) thr
          &&& IntOp.cmpi .sgt (BitVec.ofNat 32 j.val) (BitVec.ofNat 32 k)) &&& K (at1 ⟨k, hk⟩)) := by
    rw [← markOf_at K k hk (Shape.Idx.first h_S_)]
    rfl
  have hn : ∀ a b : BitVec 1, a &&& ~~~ b = 1#1 ↔ a = 1#1 ∧ ¬ b = 1#1 := by decide
  have := j.isLt
  rw [h, hn, and_iff, and_iff, rowOf_at U k hk j, ogt_iff, sgt_iff j.val k (by omega) (by omega), and_assoc]

/-- The relation the reference's overlaps give between places. -/
def BadR (U : FVec Ideal S4000x4000 .f32) (i j : ℕ) : Prop := thr < U (ix2 (Fin.ofNat 4000 i) (Fin.ofNat 4000 j))

variable (m : (ℓ : Loc nD τ sig) → Buf (Elt Ideal) ℓ)

/-- The carried values after `k` trips, `k` at most all of them. -/
theorem loop_at (c : Dev nD) : ∀ k, k ≤ 4000 →
    (STEP^[k] (X m c)) main_v130_0 = X m c main_v130_0 ∧ (STEP^[k] (X m c)) main_v130_1 = iotaInDim S4000 32 0
    ∧ (STEP^[k] (X m c)) main_v130_3 = constantI S_ 32 (BitVec.ofNat 32 k)
    ∧ ∀ j : Fin 4000, (STEP^[k] (X m c)) main_v130_4 (at1 j) = 1#1
        ↔ ∀ i, i < k → i < j.val → Kept (BadR (X m c main_v130_0)) i → ¬ BadR (X m c main_v130_0) i j.val
  | 0, _ => ⟨rfl, X_iota m c, (X_i m c).trans rfl, fun j => by
      rw [show (STEP^[0] (X m c)) main_v130_4 (at1 j) = 1#1 from congrFun (X_keep m c) (at1 j)]
      exact iff_of_true rfl (fun i hi => absurd hi (Nat.not_lt_zero i))⟩
  | k + 1, hk => by
    obtain ⟨h0, h1, h3, h4⟩ := loop_at c k (by omega)
    simp only [Function.iterate_succ_apply']
    refine ⟨(STEP_main_v130_0 _).trans h0, (STEP_main_v130_1 _).trans h1, ?_, fun j => ?_⟩
    · refine (STEP_main_v130_3 _).trans ?_
      show id (addi (STEP^[k] (X m c) main_v130_3) _) = _
      rw [h3]
      funext z
      show BitVec.ofNat 32 k + 1#32 = BitVec.ofNat 32 (k + 1)
      rw [BitVec.ofNat_add]
    · have e : STEP (STEP^[k] (X m c)) main_v130_4 = tripKeep (X m c main_v130_0) (iotaInDim S4000 32 0) (constantI S_ 32 (BitVec.ofNat 32 k)) (STEP^[k] (X m c) main_v130_4) := by
        refine (STEP_main_v130_4 _).trans ((step_keep _).trans ?_)
        rw [h0, h1, h3]
      rw [e]
      refine (tripKeep_at _ _ k (by omega) j).trans ?_
      have hkk : STEP^[k] (X m c) main_v130_4 (at1 ⟨k, by omega⟩) = 1#1 ↔ Kept (BadR (X m c main_v130_0)) k := by
        rw [h4 ⟨k, by omega⟩, kept_iff]
        exact ⟨fun h i hi => h i hi hi, fun h i hi _ => h i hi⟩
      have hb : thr < (X m c main_v130_0 : FVec Ideal S4000x4000 .f32) (ix2 ⟨k, by omega⟩ j) ↔ BadR (X m c main_v130_0) k j.val := by
        unfold BadR
        rw [show (Fin.ofNat 4000 k) = ⟨k, by omega⟩ from Fin.ext (Nat.mod_eq_of_lt (by omega)), show Fin.ofNat 4000 j.val = j from Fin.ext (Nat.mod_eq_of_lt j.isLt)]
      rw [h4 j, hkk, hb]
      constructor
      · rintro ⟨h, h'⟩ i hi hij hki hbi
        by_cases c : i < k
        · exact h i c hij hki hbi
        · obtain rfl : i = k := by omega
          exact h' ⟨hbi, hij, hki⟩
      · intro h
        exact ⟨fun i hi => h i (by omega), fun ⟨hbk, hkj, hkk⟩ => h k (by omega) hkj hkk hbk⟩

/-- The marks after the loop. -/
theorem loop_keep (c : Dev nD) (j : Fin 4000) : atEnd m c main_v130_4 (at1 j) = 1#1 ↔ Kept (BadR (X m c main_v130_0)) j.val := by
  have e : atEnd m c main_v130_4 = (STEP^[4000] (X m c)) main_v130_4 :=
    (cond_keeps (atK m 4000 c) main_v130_4 (by decide)).trans (atK_agree m c 4000 main_v130_4 (by decide))
  rw [e, (loop_at m c 4000 le_rfl).2.2.2 j, kept_iff]
  exact ⟨fun h i hi => h i (by have := j.isLt; omega) hi, fun h i _ hi => h i hi⟩

end Cert.ReferenceIdeal.Nms
-- ==== Proof.SameRows.lean ====
/-
  Over the extended reals, from the same arguments, the kernel and the reference decode the same proposals and find the
  same overlaps above the threshold.
-/
module

public import proofs.«01_k».proof.Proof.KernRows
public import proofs.«01_k».proof.Proof.RefLoop

@[expose] public section

noncomputable section

namespace Cert.ReferenceIdeal.Nms

open Idealize.ShloMosaic Idealize.ShloMosaic.TcCoe Cert.ReferenceIdeal Cert.ReferenceIdeal.Gen Cert.ReferenceIdeal.Value
open Idealize.SL.Sem Cert.Nms

/-- A small row number as the gather reads it. -/
theorem wrap1_at (x : IVec S4000 32) (i : Fin 4000) (n : ℕ) (hn : n < 2 ^ 31) (h : x (at1 i) = BitVec.ofNat 32 n) : wrap1 x (ix2 i 0) = BitVec.ofNat 32 n := by
  have e : wrap1 x (ix2 i 0) = select (cmpi .slt x (constantI S4000 32 0#32)) (addi x (broadcastInDim S4000 ![] bcast_S_S4000 (constantI S_ 32 20000#32))) x (at1 i) := by
    unfold wrap1
    generalize addi x (broadcastInDim S4000 ![] bcast_S_S4000 (constantI S_ 32 20000#32)) = y
    rw [show broadcastInDim S4000 ![] bcast_S_S4000 (constantI S_ 32 0#32) = constantI S4000 32 0#32 from rfl]
    generalize select (cmpi .slt x (constantI S4000 32 0#32)) y x = v
    simp only [pointwise]; simp; exact congrArg v (at1_ext _ _ rfl)
  rw [e, select_slt_zero_of_nonneg _ _ _ _ (by rw [h, Idealize.ShloMosaic.toInt_ofNat_of_lt hn]; omega), h]

/-- A gathered row: the operand's row at the place. -/
theorem gather_row (A : FVec Ideal S20000x7 .f32) (x : IVec S4000 32) (i : Fin 4000) (r : Fin 20000) (h : x (at1 i) = BitVec.ofNat 32 r.val) (k : Fin 7) :
    Host.gather gather_S20000x7_S4000x1_S4000x7_1_0_n_n_0_1_17 A (wrap1 x) (ix2 i k) = A (ix2 r k) := by
  have hr := r.isLt
  refine (gatherRows_at (N := 20000) (C := 7) (R := 4000) (by norm_num) gather_S20000x7_S4000x1_S4000x7_1_0_n_n_0_1_17.wf A (wrap1 x) i k).trans
    (congrArg A (at2_ext _ _ ?_ rfl))
  show min (wrap1 x (ix2 i 0)).toInt.toNat (20000 - 1) = r.val
  rw [wrap1_at x i r.val (by omega) h, Idealize.ShloMosaic.toInt_ofNat_of_lt (show r.val < 2 ^ 31 by omega)]
  omega

variable (m : (ℓ : Loc nD τ sig) → Buf (Elt Ideal) ℓ)

/-- The arguments as tables. -/
abbrev anch (c : Dev nD) : FVec Ideal (Sh 20000 7) .f32 := m ((c.tc : Thread nD τ).loc main_arg0)
abbrev dels (c : Dev nD) : FVec Ideal (Sh 20000 7) .f32 := m ((c.tc : Thread nD τ).loc main_arg2)
abbrev scos (c : Dev nD) : FVec Ideal (Sv 20000) .f32 := sig1 (m ((c.tc : Thread nD τ).loc main_arg1))

/-- The word the reference selects is the place of the row. -/
theorem index_word (c : Dev nD) (i : Fin 4000) : X m c main_indices (at1 i) = BitVec.ofNat 32 (place (scos m c) i).val := by
  rw [X_indices]
  exact place_word _ _ i

/-- The anchor and the delta the reference gathers. -/
theorem ref_both (c : Dev nD) (i : Fin 4000) (k : Fin 7) :
    X m c main_v19 (ix2 i k) = anch m c (ix2 (place (scos m c) i) k) ∧ X m c main_v12 (ix2 i k) = dels m c (ix2 (place (scos m c) i) k) := by
  rw [X_v19, X_v12]
  exact ⟨gather_row _ _ i _ (index_word m c i) k, gather_row _ _ i _ (index_word m c i) k⟩

end Cert.ReferenceIdeal.Nms

namespace Cert.Nms

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The arguments are the same. -/
structure Args : Prop where
  a0 : Cert.ReferenceIdeal.Nms.anch m' c = Cert.KernelIdeal.Nms.anch m c
  a1 : Cert.ReferenceIdeal.Nms.scos m' c = Cert.KernelIdeal.Nms.scos m c
  a2 : Cert.ReferenceIdeal.Nms.dels m' c = Cert.KernelIdeal.Nms.dels m c

/-- The kernel's gathered rows, its proposals, and the reference's proposals. -/
abbrev gK : FVec Ideal (Sh 4096 16) .f32 := Cert.KernelIdeal.Nms.gath (Cert.KernelIdeal.Gen.V1 m) c
abbrev pR : FVec Ideal (Sh 4000 7) .f32 := Cert.ReferenceIdeal.Nms.X m' c Cert.ReferenceIdeal.main_v72

variable {m m' c}

/-- Rows that hold the same anchors and deltas decode to the same proposals. -/
theorem dec_same (g : FVec Ideal (Sh 4096 16) .f32) (D A : FVec Ideal (Sh 4000 7) .f32) (i : Fin 4000) (i' : Fin 4096)
    (ra : ∀ k : Fin 7, A (ix2 i k) = g (ix2 i' (k.castLE (by decide)))) (rd : ∀ k : Fin 7, D (ix2 i k) = g (ix2 i' ⟨8 + k.val, by omega⟩))
    (k : Fin 7) (k' : Fin 8) (hk : k'.val = k.val) : propOf g (ix2 i' k') = Cert.ReferenceIdeal.Nms.propV D A (ix2 i k) := by
  obtain ⟨p0, p1, p2, p3, p4, p5, p6⟩ := prop_at g i'
  obtain ⟨q0, q1, q2, q3, q4, q5, q6⟩ := Cert.ReferenceIdeal.Nms.propV_at D A i
  have a0 : A (ix2 i 0) = g (ix2 i' 0) := ra 0
  have a1 : A (ix2 i 1) = g (ix2 i' 1) := ra 1
  have a2 : A (ix2 i 2) = g (ix2 i' 2) := ra 2
  have a3 : A (ix2 i 3) = g (ix2 i' 3) := ra 3
  have a4 : A (ix2 i 4) = g (ix2 i' 4) := ra 4
  have a5 : A (ix2 i 5) = g (ix2 i' 5) := ra 5
  have a6 : A (ix2 i 6) = g (ix2 i' 6) := ra 6
  have d0 : D (ix2 i 0) = g (ix2 i' 8) := rd 0
  have d1 : D (ix2 i 1) = g (ix2 i' 9) := rd 1
  have d2 : D (ix2 i 2) = g (ix2 i' 10) := rd 2
  have d3 : D (ix2 i 3) = g (ix2 i' 11) := rd 3
  have d4 : D (ix2 i 4) = g (ix2 i' 12) := rd 4
  have d5 : D (ix2 i 5) = g (ix2 i' 13) := rd 5
  have d6 : D (ix2 i 6) = g (ix2 i' 14) := rd 6
  rw [a0, a3, a4, d0] at q0
  rw [a1, a3, a4, d1] at q1
  rw [a2, a5, d2] at q2
  rw [a3, d3] at q3
  rw [a4, d4] at q4
  rw [a5, d5] at q5
  rw [a6, d6] at q6
  obtain ⟨n, hn⟩ := k
  rw [show k' = ⟨n, Nat.lt_succ_of_lt hn⟩ from Fin.ext hk]
  interval_cases n
  · exact p0.trans q0.symm
  · exact p1.trans q1.symm
  · exact p2.trans q2.symm
  · exact p3.trans q3.symm
  · exact p4.trans q4.symm
  · exact p5.trans q5.symm
  · exact p6.trans q6.symm

/-- The proposals agree on the first 4000 rows. -/
theorem prop_same (h : Args m m' c) (i : Fin 4000) (i' : Fin 4096) (hi : i'.val = i.val) (k : Fin 7) (k' : Fin 8) (hk : k'.val = k.val) :
    propOf (gK m c) (ix2 i' k') = pR m' c (ix2 i k) := by
  obtain ⟨ka, kd⟩ := Cert.KernelIdeal.Nms.gath_both m c i i' hi
  have ra : ∀ k, Cert.ReferenceIdeal.Nms.X m' c Cert.ReferenceIdeal.main_v19 (ix2 i k) = gK m c (ix2 i' (k.castLE (by decide))) := fun k => by
    rw [(Cert.ReferenceIdeal.Nms.ref_both m' c i k).1, h.a0, h.a1]; exact (ka k).symm
  have rd : ∀ k : Fin 7, Cert.ReferenceIdeal.Nms.X m' c Cert.ReferenceIdeal.main_v12 (ix2 i k) = gK m c (ix2 i' ⟨8 + k.val, by omega⟩) := fun k => by
    rw [(Cert.ReferenceIdeal.Nms.ref_both m' c i k).2, h.a2, h.a1]; exact (kd k).symm
  have e : pR m' c = Cert.ReferenceIdeal.Nms.propV (Cert.ReferenceIdeal.Nms.X m' c Cert.ReferenceIdeal.main_v12) (Cert.ReferenceIdeal.Nms.X m' c Cert.ReferenceIdeal.main_v19) :=
    Cert.ReferenceIdeal.Nms.X_v72 m' c
  rw [e]
  exact dec_same _ _ _ i i' ra rd k k' hk

/-- Two places stand against each other in the one exactly when they do in the other. -/
theorem bad_same (h : Args m m' c) (i j : ℕ) (hi : i < 4000) (hj : j < 4000) :
    BadG (geomOf (gK m c)) i j ↔ Cert.ReferenceIdeal.Nms.BadR (Cert.ReferenceIdeal.Nms.X m' c Cert.ReferenceIdeal.main_v130_0) i j := by
  unfold BadG Cert.ReferenceIdeal.Nms.BadR
  rw [Cert.ReferenceIdeal.Nms.X_iou_at, show (Fin.ofNat 4000 i) = ⟨i, hi⟩ from Fin.ext (Nat.mod_eq_of_lt hi), show (Fin.ofNat 4000 j) = ⟨j, hj⟩ from Fin.ext (Nat.mod_eq_of_lt hj)]
  obtain ⟨a0, a1, a2, a3, a4⟩ := geom_at (gK m c) ⟨i, by omega⟩
  obtain ⟨b0, b1, b2, b3, b4⟩ := geom_at (gK m c) ⟨j, by omega⟩
  simp only at a0 a1 a2 a3 a4 b0 b1 b2 b3 b4
  rw [a0, a1, a2, a3, a4, b0, b1, b2, b3, b4, prop_same h ⟨i, hi⟩ ⟨i, by omega⟩ rfl 0 0 rfl, prop_same h ⟨i, hi⟩ ⟨i, by omega⟩ rfl 1 1 rfl,
    prop_same h ⟨i, hi⟩ ⟨i, by omega⟩ rfl 3 3 rfl, prop_same h ⟨i, hi⟩ ⟨i, by omega⟩ rfl 4 4 rfl,
    prop_same h ⟨j, hj⟩ ⟨j, by omega⟩ rfl 0 0 rfl, prop_same h ⟨j, hj⟩ ⟨j, by omega⟩ rfl 1 1 rfl,
    prop_same h ⟨j, hj⟩ ⟨j, by omega⟩ rfl 3 3 rfl, prop_same h ⟨j, hj⟩ ⟨j, by omega⟩ rfl 4 4 rfl]
  rfl

end Cert.Nms
-- ==== Proof.RefFin.lean ====
/-
  What the reference's last stretches compute from the loop's final contents.
-/
module

public import proofs.«01_k».proof.Proof.RefReads

@[expose] public section

noncomputable section

namespace Cert.ReferenceIdeal.Nms

open Idealize.ShloMosaic Idealize.ShloMosaic.TcCoe Cert.ReferenceIdeal Cert.ReferenceIdeal.Gen Cert.ReferenceIdeal.Value
open Idealize.SL.Sem Idealize.ShloMosaic.StableHlo

variable {F : FTy → Type} [FloatOps F] (m : (ℓ : Loc nD τ sig) → Buf (Elt F) ℓ)

/-- Row numbers among the 4000, those below zero counted from the end. -/
def wrap2 (x : IVec S1000 32) : IVec S1000x1 32 :=
  broadcastInDim S1000x1 ![0] bcast_S1000_S1000x1_0
    (select (cmpi .slt x (broadcastInDim S1000 ![] bcast_S_S1000 (constantI S_ 32 0#32)))
      (addi x (broadcastInDim S1000 ![] bcast_S_S1000 (constantI S_ 32 4000#32))) x)

variable (V : Valuation τ sig (Elt F))

/-- The masked scores. -/
theorem post_v131 : afterL postI V main_v131 = select (V main_v130_4) (V main_values) (broadcastInDim S4000 ![] bcast_S_S4000 (constant (F := F) S_ .f32 0xBF800000#32)) := by
  simp only [afterL_cons, afterL_nil]
  after_reads_simp
  rfl

/-- The second selection. -/
theorem post_values : afterL postI V main_values_15 = (Host.topK S1000 0 (FloatOps.cmpfTotal .gt) (afterL postI V main_v131) sliceFits_S4000_S1000).1 := by
  simp only [afterL_cons, afterL_nil]
  after_reads_simp
/-- What follows the loop selects the places of the largest masked scores. -/
theorem post_indices : afterL postI V main_indices_16 = (Host.topK S1000 0 (FloatOps.cmpfTotal .gt) (afterL postI V main_v131) sliceFits_S4000_S1000).2 := by
  simp only [afterL_cons, afterL_nil]
  after_reads_simp

/-- The row numbers of the last gather, and the result from them. -/
theorem last_v137 (W : Valuation τ sig (Elt F)) : after hostOps0_7 W main_v137 = wrap2 (after hostOps0_7 W main_indices_16) := by
  after_reads_simp
  unfold wrap2
  rfl
/-- The last operations gather the selected boxes into this array. -/
theorem last_v138 (W : Valuation τ sig (Elt F)) : after hostOps0_7 W main_v138
    = Host.gather gather_S4000x7_S1000x1_S1000x7_1_0_n_n_0_1_17 (W main_v72) (after hostOps0_7 W main_v137) := by
  after_reads_simp
/-- The last operations make the column of scores. -/
theorem last_v139 (W : Valuation τ sig (Elt F)) : after hostOps0_7 W main_v139
    = broadcastInDim S1000x1 ![0] bcast_S1000_S1000x1_0 (after hostOps0_7 W main_values_15) := by
  after_reads_simp
/-- The last operations join the boxes and the column of scores. -/
theorem last_v140 (W : Valuation τ sig (Elt F)) : after hostOps0_7 W main_v140
    = concatenate S1000x8 1 [⟨S1000x7, after hostOps0_7 W main_v138⟩, ⟨S1000x1, after hostOps0_7 W main_v139⟩] concatenates_S1000x7_S1000x1_S1000x8_d1 := by
  after_reads_simp
  rfl

/-- The result. -/
theorem post_v140 : afterL postI V main_v140 = concatenate S1000x8 1 [⟨S1000x7, Host.gather gather_S4000x7_S1000x1_S1000x7_1_0_n_n_0_1_17 (V main_v72) (wrap2 (afterL postI V main_indices_16))⟩,
    ⟨S1000x1, broadcastInDim S1000x1 ![0] bcast_S1000_S1000x1_0 (afterL postI V main_values_15)⟩] concatenates_S1000x7_S1000x1_S1000x8_d1 := by
  simp only [afterL_cons, afterL_nil]
  have e : after hostOps0_6 (after hostOps0_5 V) main_v72 = V main_v72 :=
    (after_of_writes_sub hostOps0_6 _ w6 (by decide)).trans (after_of_writes_sub hostOps0_5 _ w5 (by decide))
  generalize after hostOps0_6 (after hostOps0_5 V) = W at e ⊢
  rw [last_v140, last_v138, last_v139, last_v137, e]

/-- The same at the end of a run. -/
theorem fin_v131 (c : Dev nD) : fin m c main_v131
    = select (atEnd m c main_v130_4) (X m c main_values) (broadcastInDim S4000 ![] bcast_S_S4000 (constant (F := F) S_ .f32 0xBF800000#32)) := by
  refine (post_v131 (atEnd m c)).trans ?_
  rw [atEnd_of m c main_values (by decide)]
/-- At the end: the largest masked scores of the reference. -/
theorem fin_values (c : Dev nD) : fin m c main_values_15 = (Host.topK S1000 0 (FloatOps.cmpfTotal .gt) (fin m c main_v131) sliceFits_S4000_S1000).1 :=
  post_values (atEnd m c)
/-- At the end: their places. -/
theorem fin_indices (c : Dev nD) : fin m c main_indices_16 = (Host.topK S1000 0 (FloatOps.cmpfTotal .gt) (fin m c main_v131) sliceFits_S4000_S1000).2 :=
  post_indices (atEnd m c)
/-- At the end: the result of the reference, as the gathered boxes beside the column of scores. -/
theorem fin_v140 (c : Dev nD) : fin m c main_v140 = concatenate S1000x8 1 [⟨S1000x7, Host.gather gather_S4000x7_S1000x1_S1000x7_1_0_n_n_0_1_17 (X m c main_v72) (wrap2 (fin m c main_indices_16))⟩,
    ⟨S1000x1, broadcastInDim S1000x1 ![0] bcast_S1000_S1000x1_0 (fin m c main_values_15)⟩] concatenates_S1000x7_S1000x1_S1000x8_d1 := by
  refine (post_v140 (atEnd m c)).trans ?_
  rw [atEnd_of m c main_v72 (by decide)]

end Cert.ReferenceIdeal.Nms
-- ==== Proof.SameTop.lean ====
/-
  Over the extended reals, from the same arguments, the kernel and the reference make the same second selection.
-/
module

public import proofs.«01_k».proof.Proof.SameRows
public import proofs.«01_k».proof.Proof.RefFin

@[expose] public section

noncomputable section

namespace Cert.Nms

open Idealize.ShloMosaic Idealize.ShloMosaic.TcCoe Idealize.SL.Sem

/-! ## Selections of lists that agree in front -/

/-- Where the `r`-th greatest of 4000 scores stands. -/
def pick (x : (Sv 4000).Idx → EReal) (r : Fin 1000) : Fin 4000 := spot gtI (fun i => x (at1 i)) (r.castLE (by norm_num))

/-- Appending scores that are greater than none changes no place in front. -/
theorem spot_front {p q : ℕ} (y : (Sv (p + q)).Idx → EReal) (x : (Sv p).Idx → EReal) (he : ∀ i : Fin p, y (at1 (Fin.castAdd q i)) = x (at1 i))
    (hp : ∀ (i : Fin p) (j : Fin q), ¬ x (at1 i) < y (at1 (Fin.natAdd p j))) (r : Fin p) (r' : Fin (p + q)) (hr : r'.val = r.val) :
    (spot gtI (fun i => y (at1 i)) r').val = (spot gtI (fun i => x (at1 i)) r).val := by
  have h := spot_append (p := p) (q := q) gtI (fun i => y (at1 i)) (fun i j => by
    rw [Ne, gtI_iff, he i]
    exact hp i j) r
  have e : (fun i : Fin p => y (at1 (Fin.castAdd q i))) = fun i => x (at1 i) := funext he
  rw [show r' = Fin.castAdd q r from Fin.ext hr]
  refine (congrArg Fin.val h).trans ?_
  rw [e]
  rfl

/-- Selecting from the padded scores picks what selecting from the scores picks. -/
theorem pick_append (y : (Sv 4096).Idx → EReal) (x : (Sv 4000).Idx → EReal) (he : ∀ (i : Fin 4000) (i' : Fin 4096), i'.val = i.val → y (at1 i') = x (at1 i))
    (hp : ∀ (i : Fin 4000) (j : Fin 4096), 4000 ≤ j.val → ¬ x (at1 i) < y (at1 j)) (r : Fin 1000) (r' : Fin 4096) (hr : r'.val = r.val) :
    (spot gtI (fun i => y (at1 i)) r').val = (pick x r).val :=
  spot_front (p := 4000) (q := 96) y x (fun i => he i _ rfl) (fun i j => hp i _ (Nat.le_add_right 4000 j.val)) (r.castLE (by norm_num)) r' hr

/-! ## The printed values -/

def neg1 : EReal := Ideal.ofBits .f32 0xBF800000#32
def neg2 : EReal := Ideal.ofBits .f32 0xC0000000#32

/-- The literal of the mask is minus one. -/
theorem neg1_eq : neg1 = ((-1 : ℝ) : EReal) := by
  unfold neg1
  simp [Ideal.ofBits, Ideal.ieee, -EReal.coe_mul, -EReal.coe_neg]; norm_num
/-- The literal of the padding is minus two. -/
theorem neg2_eq : neg2 = ((-2 : ℝ) : EReal) := by
  unfold neg2
  simp [Ideal.ofBits, Ideal.ieee, -EReal.coe_mul, -EReal.coe_neg]; norm_num
/-- The padding literal is at most the mask literal. -/
theorem neg2_le : neg2 ≤ neg1 := by rw [neg1_eq, neg2_eq]; exact EReal.coe_le_coe_iff.mpr (by norm_num)
/-- The mask literal is at most zero. -/
theorem neg1_le_zero : neg1 ≤ 0 := by rw [neg1_eq]; exact EReal.coe_nonpos.mpr (by norm_num)

/-- An exponential is not negative. -/
theorem exp_nonneg (x : EReal) : 0 ≤ Ideal.exp x := by
  induction x with
  | bot => exact le_rfl
  | top => exact le_top
  | coe r => exact EReal.coe_nonneg.mpr (Real.exp_pos r).le

/-- A score is not negative. -/
theorem score_nonneg (x : EReal) : 0 ≤ Ideal.div 1 (1 + Ideal.exp (-x)) := by
  have h : (0 : EReal) ≤ 1 + Ideal.exp (-x) := add_nonneg zero_le_one (exp_nonneg _)
  unfold Ideal.div
  split
  · rw [if_pos zero_lt_one]; exact le_top
  · rw [one_mul]; exact EReal.inv_nonneg_of_nonneg h

/-- A score is at least minus one. -/
theorem sig_ge (x : FVec Ideal (Sv 20000) .f32) (i : Fin 20000) : neg1 ≤ Cert.KernelIdeal.Nms.sig1 (F := Ideal) x (at1 i) := by
  have e : Cert.KernelIdeal.Nms.sig1 (F := Ideal) x (at1 i) = Ideal.div (Ideal.ofBits .f32 0x3F800000#32)
      (Ideal.ofBits .f32 0x3F800000#32 + Ideal.exp (-(x (at1 i) : EReal))) := rfl
  rw [e, Ideal.ofBits_one_f32]
  exact neg1_le_zero.trans (score_nonneg _)

/-! ## The masked scores -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The kernel's and the reference's. -/
def mK : (Sv 4096).Idx → EReal :=
  shapeCast (Sv 4096) (Cert.KernelIdeal.Nms.outM (Cert.KernelIdeal.Gen.V1 m) c) Cert.KernelIdeal.Facts₀.shapeCasts_S4096x1_S4096
def mR : (Sv 4000).Idx → EReal := Cert.ReferenceIdeal.Nms.fin m' c Cert.ReferenceIdeal.main_v131

/-- A masked score of any list: the score where the mark is positive, minus one elsewhere. -/
theorem maskOf_at (k sc : FVec Ideal (Sh 4096 1) .f32) (i : Fin 4096) :
    maskOf k sc (ix2 i 0) = Scalar.select (Ideal.cmp .ogt (k (ix2 i 0)) 0) (sc (ix2 i 0)) neg1 := by
  unfold maskOf lit
  simp only [pointwise, Ideal.ofBits_zero_f32]
  rfl

end Cert.Nms
-- ==== Proof.SameEnd.lean ====
/-
  Over the extended reals, from the same arguments, the kernel and the reference end with the same result.
-/
module

public import proofs.«01_k».proof.Proof.SameTop

@[expose] public section

noncomputable section

namespace Cert.Nms

open Idealize.ShloMosaic Idealize.ShloMosaic.TcCoe Idealize.SL.Sem

/-- A list from a column. -/
theorem flat_at {β : Type} (x : (Sh 4096 1).Idx → β) (h : (Sh 4096 1).ShapeCasts (Sv 4096)) (i : Fin 4096) : shapeCast (Sv 4096) x h (at1 i) = x (ix2 i 0) := by
  show shapeCast (Sv 4096) x h (ix1 i) = _
  simp only [pointwise]

/-- A column from a list. -/
theorem tall_at {β : Type} (x : (Sv 4096).Idx → β) (h : (Sv 4096).ShapeCasts (Sh 4096 1)) (i : Fin 4096) : shapeCast (Sh 4096 1) x h (ix2 i 0) = x (at1 i) := by
  simp only [pointwise]
  exact congrArg x (at1_ext _ _ rfl)

/-- A choice by a mark. -/
theorem select_of_iff {p : Prop} [Decidable p] {b : BitVec 1} (h : b = 1#1 ↔ p) (x y : EReal) : Scalar.select b x y = if p then x else y := by
  unfold Scalar.select
  by_cases c : p
  · rw [if_pos c]; exact if_pos (h.mpr c)
  · rw [if_neg c]; exact if_neg fun e => c (h.mp e)

section Masked

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The places the kernel keeps. -/
abbrev kp (i : ℕ) : Prop := Kept (BadG (geomOf (gK m c))) i

open Classical in
/-- The kernel's masked score at any place. -/
theorem mK_at (i : Fin 4096) : mK m c (at1 i) = if kp m c i.val then (Cert.KernelIdeal.Gen.V1 m c Cert.KernelIdeal.main_v21 : FVec Ideal (Sh 4096 1) .f32) (ix2 i 0) else neg1 := by
  unfold mK
  refine (flat_at _ _ i).trans ?_
  refine (maskOf_at (keepC (gK m c)) _ i).trans (select_of_iff ?_ _ _)
  rw [ogt_iff, keepC_at (gK m c) (fun j hj => geom_zero (gK m c) j hj) i, bitOf_pos]

/-- The kernel's scores in front and behind. -/
theorem v21_front (i : Fin 4000) (i' : Fin 4096) (hi : i'.val = i.val) :
    (Cert.KernelIdeal.Gen.V1 m c Cert.KernelIdeal.main_v21 : FVec Ideal (Sh 4096 1) .f32) (ix2 i' 0) = Cert.KernelIdeal.Nms.scos m c (at1 (place (Cert.KernelIdeal.Nms.scos m c) i)) := by
  rw [Cert.KernelIdeal.Nms.V1_v21]
  refine (tall_at _ _ i').trans ((append_left _ _ _ i i' hi).trans ?_)
  rw [Cert.KernelIdeal.Nms.V1_values]
  exact topK_val gtI _ _ (by norm_num) (at1 i)
/-- The padding rows hold a score of minus two, before any mask. -/
theorem v21_back (j : Fin 4096) (hj : 4000 ≤ j.val) :
    (Cert.KernelIdeal.Gen.V1 m c Cert.KernelIdeal.main_v21 : FVec Ideal (Sh 4096 1) .f32) (ix2 j 0) = neg2 := by
  rw [Cert.KernelIdeal.Nms.V1_v21]
  exact (tall_at _ _ j).trans (append_right _ _ _ ⟨j.val - 4000, by have := j.isLt; omega⟩ j (Nat.sub_add_cancel hj).symm)

open Classical in
/-- The reference's masked score at a place. -/
theorem mR_at (i : Fin 4000) : mR m' c (at1 i) = if Kept (Cert.ReferenceIdeal.Nms.BadR (Cert.ReferenceIdeal.Nms.X m' c Cert.ReferenceIdeal.main_v130_0)) i.val
    then Cert.ReferenceIdeal.Nms.scos m' c (at1 (place (Cert.ReferenceIdeal.Nms.scos m' c) i)) else neg1 := by
  have hv : Cert.ReferenceIdeal.Nms.X m' c Cert.ReferenceIdeal.main_values (at1 i) = Cert.ReferenceIdeal.Nms.scos m' c (at1 (place (Cert.ReferenceIdeal.Nms.scos m' c) i)) := by
    rw [Cert.ReferenceIdeal.Nms.X_values]
    exact topK_val gtI _ _ (by norm_num) (at1 i)
  unfold mR
  rw [Cert.ReferenceIdeal.Nms.fin_v131, ← hv]
  exact select_of_iff (Cert.ReferenceIdeal.Nms.loop_keep m' c i) _ _

variable {m m' c}

/-- The masked scores agree in front. -/
theorem masked_same (h : Args m m' c) (i : Fin 4000) (i' : Fin 4096) (hi : i'.val = i.val) : mK m c (at1 i') = mR m' c (at1 i) := by
  classical
  have hk : kp m c i'.val ↔ Kept (Cert.ReferenceIdeal.Nms.BadR (Cert.ReferenceIdeal.Nms.X m' c Cert.ReferenceIdeal.main_v130_0)) i.val := by
    rw [hi]; exact kept_congr 4000 (fun a b ha hb => bad_same h a b ha hb) i.val i.isLt
  rw [mK_at, mR_at, v21_front m c i i' hi, h.a1]
  exact if_congr hk rfl rfl

/-- The masked scores behind are greater than none in front. -/
theorem masked_back (h : Args m m' c) (i : Fin 4000) (j : Fin 4096) (hj : 4000 ≤ j.val) : ¬ mR m' c (at1 i) < mK m c (at1 j) := by
  classical
  have hK : mK m c (at1 j) ≤ neg1 := by
    rw [mK_at, v21_back m c j hj]
    split
    · exact neg2_le
    · exact le_rfl
  have hR : neg1 ≤ mR m' c (at1 i) := by
    rw [mR_at, h.a1]
    split
    · exact sig_ge _ _
    · exact le_rfl
  exact not_lt.mpr (hK.trans hR)

/-- The second selections name the same places. -/
theorem pick_same (h : Args m m' c) (r : Fin 1000) (r' : Fin 4096) (hr : r'.val = r.val) :
    (spot gtI (fun i => mK m c (at1 i)) r').val = (pick (mR m' c) r).val :=
  pick_append (mK m c) (mR m' c) (masked_same h) (masked_back h) r r' hr

end Masked

end Cert.Nms
-- ==== Proof.SameResult.lean ====
/-
  Over the extended reals, from the same arguments, the results are the same array.
-/
module

public import proofs.«01_k».proof.Proof.SameEnd
public import Idealize.ShloMosaic.Lib.KernelVsHost

@[expose] public section

noncomputable section

namespace Cert.Nms

open Idealize.ShloMosaic Idealize.ShloMosaic.TcCoe Idealize.SL.Sem

/-! ## The kernel's last rows -/

section Kern

open Cert.KernelIdeal Cert.KernelIdeal.Gen Cert.KernelIdeal.Nms

variable (m : (ℓ : Loc nD τ sig) → Buf (Elt Ideal) ℓ) (c : Dev nD)

/-- Where the kernel's `r`-th result row stands among its rows. -/
def pickK (r : Fin 1000) : Fin 4096 := spot gtI (fun i => mK m c (at1 i)) (r.castLE (by norm_num))

/-- The word that names it. -/
theorem last_word (r : Fin 1000) (r' : Fin 1024) (hr : r'.val = r.val) : V4 m (outs m) c main_v24 (at1 r') = BitVec.ofNat 32 (pickK m c r).val := by
  rw [V4_rows]
  refine (pad_apply_of_inside _ _ _ _ _ _ _ (at1 r') (at1 r) (fun a => ?_)).trans ?_
  · match a with
    | ⟨0, _⟩ => show r'.val = 0 + r.val * (0 + 1); omega
  · rw [V3_indices, V2_1]
    exact topK_idx gtI (mK m c) _ (by norm_num) (at1 r)

/-- The proposals the second call reads. -/
theorem last_table : V4 m (outs m) c main_v22_0 = propOf (gK m c) :=
  (V4_of m (outs m) c main_v22_0 (by decide)).trans <| (V3_of m (outs m) c main_v22_0 (by decide)).trans (V2_0 m c)

/-- A result row's first seven columns. -/
theorem last_row (r : Fin 1000) (k : Fin 7) (k' : Fin 8) (hk : k'.val = k.val) :
    extractStridedSlice S1000x7 ![0, 0] (V5 m (outs m) c main_v25) slices_S1024x8_S1000x7_0_0 (ix2 r k) = propOf (gK m c) (ix2 (pickK m c r) k') := by
  have e : extractStridedSlice S1000x7 ![0, 0] (V5 m (outs m) c main_v25) slices_S1024x8_S1000x7_0_0 (ix2 r k)
      = V5 m (outs m) c main_v25 (ix2 (r.castLE (by norm_num)) k') := by
    unfold extractStridedSlice
    refine congrArg (V5 m (outs m) c main_v25) (at2_ext _ _ ?_ ?_)
    · exact Nat.zero_add _
    · exact (Nat.zero_add _).trans hk.symm
  rw [e, V5_2, ← last_table]
  exact gatherOf_at (V4 m (outs m) c main_v24) (V4 m (outs m) c main_v22_0) _ k' (pickK m c r) (by norm_num) (last_word m c r _ rfl)

/-- A result row's score. -/
theorem last_score (r : Fin 1000) : V5 m (outs m) c main_values_6 (at1 r) = mK m c (at1 (pickK m c r)) := by
  rw [V5_of m (outs m) c main_values_6 (by decide), V4_of m (outs m) c main_values_6 (by decide), V3_values, V2_1]
  exact topK_val gtI (mK m c) _ (by norm_num) (at1 r)

end Kern

/-! ## The reference's last rows -/

section Ref

open Cert.ReferenceIdeal Cert.ReferenceIdeal.Gen Cert.ReferenceIdeal.Nms

/-- A small row number as the last gather reads it. -/
theorem wrap2_at (x : IVec S1000 32) (i : Fin 1000) (n : ℕ) (hn : n < 2 ^ 31) (h : x (at1 i) = BitVec.ofNat 32 n) : wrap2 x (ix2 i 0) = BitVec.ofNat 32 n := by
  have e : wrap2 x (ix2 i 0) = select (cmpi .slt x (constantI S1000 32 0#32)) (addi x (broadcastInDim S1000 ![] bcast_S_S1000 (constantI S_ 32 4000#32))) x (at1 i) := by
    unfold wrap2
    generalize addi x (broadcastInDim S1000 ![] bcast_S_S1000 (constantI S_ 32 4000#32)) = y
    rw [show broadcastInDim S1000 ![] bcast_S_S1000 (constantI S_ 32 0#32) = constantI S1000 32 0#32 from rfl]
    generalize select (cmpi .slt x (constantI S1000 32 0#32)) y x = v
    simp only [pointwise]; simp; exact congrArg v (at1_ext _ _ rfl)
  rw [e, select_slt_zero_of_nonneg _ _ _ _ (by rw [h, Idealize.ShloMosaic.toInt_ofNat_of_lt hn]; omega), h]

/-- A row of the last gather: the operand's row at the place. -/
theorem gather2_row (A : FVec Ideal S4000x7 .f32) (x : IVec S1000 32) (i : Fin 1000) (r : Fin 4000) (h : x (at1 i) = BitVec.ofNat 32 r.val) (k : Fin 7) :
    Host.gather gather_S4000x7_S1000x1_S1000x7_1_0_n_n_0_1_17 A (wrap2 x) (ix2 i k) = A (ix2 r k) := by
  have hr := r.isLt
  refine (gatherRows_at (N := 4000) (C := 7) (R := 1000) (by norm_num) gather_S4000x7_S1000x1_S1000x7_1_0_n_n_0_1_17.wf A (wrap2 x) i k).trans
    (congrArg A (at2_ext _ _ ?_ rfl))
  show min (wrap2 x (ix2 i 0)).toInt.toNat (4000 - 1) = r.val
  rw [wrap2_at x i r.val (by omega) h, Idealize.ShloMosaic.toInt_ofNat_of_lt (show r.val < 2 ^ 31 by omega)]
  omega

variable (m : (ℓ : Loc nD τ sig) → Buf (Elt Ideal) ℓ) (c : Dev nD)

/-- A result row's first seven columns. -/
theorem ref_row (r : Fin 1000) (k : Fin 7) :
    Host.gather gather_S4000x7_S1000x1_S1000x7_1_0_n_n_0_1_17 (X m c main_v72) (wrap2 (Cert.ReferenceIdeal.Nms.fin m c main_indices_16)) (ix2 r k)
      = pR m c (ix2 (pick (mR m c) r) k) := by
  have hw : Cert.ReferenceIdeal.Nms.fin m c main_indices_16 (at1 r) = BitVec.ofNat 32 (pick (mR m c) r).val := by
    rw [fin_indices]
    exact topK_idx gtI (mR m c) _ (by norm_num) (at1 r)
  exact gather2_row (pR m c) _ r (pick (mR m c) r) hw k

/-- A result row's score. -/
theorem ref_score (r : Fin 1000) : Cert.ReferenceIdeal.Nms.fin m c main_values_15 (at1 r) = mR m c (at1 (pick (mR m c) r)) := by
  rw [fin_values]
  exact topK_val gtI (mR m c) _ (by norm_num) (at1 r)

end Ref

/-! ## Both -/

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- Places of a table, of a list. -/
theorem ix2_of {n k : ℕ} (y : (Sh n k).Idx) : y = (ix2 (y 0 : Fin n) (y 1 : Fin k) : (Sh n k).Idx) := at2_ext _ _ rfl rfl
/-- An index of a vector is given by its one number. -/
theorem at1_of {n : ℕ} (y : (Sv n).Idx) : y = at1 (n := n) (y 0) := at1_ext _ _ rfl

/-- The places of a result row agree. -/
theorem pickK_same (h : Args m m' c) (r : Fin 1000) : (pickK m c r).val = (pick (mR m' c) r).val := pick_same h r _ rfl

/-- Rows with their scores beside them. -/
def joined (a : FVec Ideal (Sh 1000 7) .f32) (b : FVec Ideal (Sv 1000) .f32) : FVec Ideal (Sh 1000 8) .f32 :=
  concatenate Cert.KernelIdeal.S1000x8 1 [⟨Cert.KernelIdeal.S1000x7, a⟩,
    ⟨Cert.KernelIdeal.S1000x1, broadcastInDim Cert.KernelIdeal.S1000x1 ![0] Cert.KernelIdeal.Facts₀.bcast_S1000_S1000x1_0 b⟩]
    Cert.KernelIdeal.Facts₀.concatenates_S1000x7_S1000x1_S1000x8_d1

/-- The results are the same array. -/
theorem result_same (h : Args m m' c) :
    (Cert.ReferenceIdeal.Nms.fin m' c Cert.ReferenceIdeal.main_v140 : FVec Ideal (Sh 1000 8) .f32)
      = Cert.KernelIdeal.Gen.V6 m (Cert.KernelIdeal.Nms.outs m) c Cert.KernelIdeal.main_v28 := by
  have hrow : (Host.gather Cert.ReferenceIdeal.gather_S4000x7_S1000x1_S1000x7_1_0_n_n_0_1_17 (Cert.ReferenceIdeal.Nms.X m' c Cert.ReferenceIdeal.main_v72)
        (Cert.ReferenceIdeal.Nms.wrap2 (Cert.ReferenceIdeal.Nms.fin m' c Cert.ReferenceIdeal.main_indices_16)) : FVec Ideal (Sh 1000 7) .f32)
      = extractStridedSlice (Sh 1000 7) ![0, 0] (Cert.KernelIdeal.Gen.V5 m (Cert.KernelIdeal.Nms.outs m) c Cert.KernelIdeal.main_v25)
          Cert.KernelIdeal.Facts₀.slices_S1024x8_S1000x7_0_0 := by
    funext y
    rw [ix2_of y]
    refine (ref_row m' c (y 0) (y 1)).trans (Eq.trans ?_ (last_row m c (y 0) (y 1) ((y 1).castLE (by norm_num)) rfl).symm)
    exact (prop_same h (pick (mR m' c) (y 0)) (pickK m c (y 0)) (pickK_same h (y 0)) (y 1) _ rfl).symm
  have hscore : (Cert.ReferenceIdeal.Nms.fin m' c Cert.ReferenceIdeal.main_values_15 : FVec Ideal (Sv 1000) .f32)
      = Cert.KernelIdeal.Gen.V5 m (Cert.KernelIdeal.Nms.outs m) c Cert.KernelIdeal.main_values_6 := by
    funext y
    rw [at1_of y]
    refine (ref_score m' c (y 0)).trans (Eq.trans ?_ (last_score m c (y 0)).symm)
    exact (masked_same h (pick (mR m' c) (y 0)) (pickK m c (y 0)) (pickK_same h (y 0))).symm
  have e1 : (Cert.ReferenceIdeal.Nms.fin m' c Cert.ReferenceIdeal.main_v140 : FVec Ideal (Sh 1000 8) .f32) = joined _ _ := Cert.ReferenceIdeal.Nms.fin_v140 m' c
  have e2 : (Cert.KernelIdeal.Gen.V6 m (Cert.KernelIdeal.Nms.outs m) c Cert.KernelIdeal.main_v28 : FVec Ideal (Sh 1000 8) .f32) = joined _ _ :=
    Cert.KernelIdeal.Nms.V6_v28 m (Cert.KernelIdeal.Nms.outs m) c
  exact e1.trans ((congrArg₂ joined hrow hscore).trans e2.symm)

end Cert.Nms
-- ==== Proof.lean ====
module

public import proofs.«01_k».proof.Defs
public import proofs.«01_k».proof.Proof.Ends
public import proofs.«01_k».proof.Proof.EndsP
public import proofs.«01_k».proof.Proof.RefRun
public import proofs.«01_k».proof.Proof.SameResult
public import Idealize.ShloMosaic.Adequacy
public import Idealize.ShloMosaic.Init

@[expose] public section

noncomputable section

namespace Cert.Proof

open Idealize.ShloMosaic Idealize.SL.Sem Idealize.ShloMosaic.StableHlo

/-- The kernel as printed terminates with its arguments unchanged and its counters at zero. -/
theorem frameP : quiescent_Kernel (hKernel := Cert.Kernel.Gen.facts) := fun m g _ =>
  θ_run_mono (Cert.Kernel.Nms.run_result m g) fun _ h => ⟨fun c => ⟨(h.1 c).1, (h.1 c).2.1, (h.1 c).2.2.1⟩, h.2⟩

/-- So does the idealized kernel. -/
theorem frameI : quiescent_KernelIdeal (hKernelIdeal := Cert.KernelIdeal.Gen.facts) := fun m g _ =>
  θ_run_mono (Cert.KernelIdeal.Nms.run_result m g) fun _ h => ⟨fun c => ⟨(h.1 c).1, (h.1 c).2.1, (h.1 c).2.2.1⟩, h.2⟩

/-- So does the reference. -/
theorem frameR : quiescent_ReferenceIdeal (hReferenceIdeal := Cert.ReferenceIdeal.Gen.facts) := fun m g _ =>
  θ_run_mono (Cert.ReferenceIdeal.Nms.run_result m g) fun _ h => ⟨fun c => ⟨(h.1 c).1, (h.1 c).2.1, (h.1 c).2.2.1⟩, h.2⟩

/-- The same scores from the same argument. -/
theorem scores_same (x : FVec Ideal (Cert.Nms.Sv 20000) .f32) : Cert.ReferenceIdeal.Nms.sig1 (F := Ideal) x = Cert.KernelIdeal.Nms.sig1 (F := Ideal) x := rfl

/-- From the same arguments, over the extended reals, the idealized kernel and the reference end with the same result. -/
theorem algebraic : algebraic_KernelIdeal_ReferenceIdeal (hKernelIdeal := Cert.KernelIdeal.Gen.facts) (hReferenceIdeal := Cert.ReferenceIdeal.Gen.facts) :=
  fun m g m' g' _ hargs => by
    have same : ∀ c, Cert.Nms.Args m m' c := fun c =>
      { a0 := (hargs c).1, a1 := (congrArg (Cert.ReferenceIdeal.Nms.sig1 (F := Ideal)) (hargs c).2.1).trans (scores_same _), a2 := (hargs c).2.2 }
    refine ⟨fun c => Cert.KernelIdeal.Gen.V6 m (Cert.KernelIdeal.Nms.outs m) c (Proc.devRef .tc Cert.KernelIdeal.main_v28), ?_, ?_⟩
    · exact θ_run_mono (Cert.KernelIdeal.Nms.run_result m g) fun _ h c => ⟨(h.1 c).2.2.2, (h.1 c).1, (h.1 c).2.1, (h.1 c).2.2.1⟩
    · exact θ_run_mono (Cert.ReferenceIdeal.Nms.run_result m' g') fun _ h c =>
        ⟨((h.1 c).2.2.2).trans (Cert.Nms.result_same (same c)), (h.1 c).1, (h.1 c).2.1, (h.1 c).2.2.1⟩

/-- Everything claimed. -/
theorem claim : Cert.Claim :=
  ⟨Cert.Kernel.Gen.facts, Cert.KernelIdeal.Gen.facts, Cert.ReferenceIdeal.Gen.facts, frameP, frameI, frameR, trivial, algebraic⟩

end Cert.Proof

end
